-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "r2h" .f32 0x3F3504F3#32 (((Real.sqrt 2)⁻¹ : ℝ) : EReal)
  ∧ IdealRules.named_const.Statement Cert.KernelIdeal.κ "r3s" .f32 0x3E93CD3A#32 (((2 * (Real.sqrt 3))⁻¹ : ℝ) : EReal)
  ∧ IdealRules.named_const.Statement Cert.KernelIdeal.κ "r6t" .f32 0x3F5105EC#32 ((2 * (Real.sqrt 6)⁻¹ : ℝ) : EReal)
  ∧ IdealRules.named_const.Statement Cert.KernelIdeal.κ "r3t" .f32 0x3F13CD3A#32 (((Real.sqrt 3)⁻¹ : ℝ) : EReal)
  ∧ IdealRules.named_const.Statement Cert.KernelIdeal.κ "inv_len" .f32 0x3B430C31#32 ((1 / 336 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x336x862 : Shape := ⟨3, ![256, 336, 862]⟩
abbrev S862x56x16 : Shape := ⟨3, ![862, 56, 16]⟩
abbrev S862x16 : Shape := ⟨2, ![862, 16]⟩
abbrev S862x16x56 : Shape := ⟨3, ![862, 16, 56]⟩
abbrev S862x56 : Shape := ⟨2, ![862, 56]⟩
abbrev S_ : Shape := ⟨0, ![]⟩

class Facts : Prop where
  bcast_S_S256x336x862 : S_.BroadcastsInDim S256x336x862 (![] : Fin 0 → Fin S256x336x862.rank)
  reducesTo_S256x336x862_S_d0_1_2 : S256x336x862.ReducesTo [0, 1, 2] S_
  h_S_ : 0 < S_.numel
  bcast_S_S862x56x16 : S_.BroadcastsInDim S862x56x16 (![] : Fin 0 → Fin S862x56x16.rank)
  reducesTo_S862x56x16_S_d0_1_2 : S862x56x16.ReducesTo [0, 1, 2] S_
  bcast_S_S862x16 : S_.BroadcastsInDim S862x16 (![] : Fin 0 → Fin S862x16.rank)
  reducesTo_S862x16_S_d0_1 : S862x16.ReducesTo [0, 1] S_
  bcast_S_S862x16x56 : S_.BroadcastsInDim S862x16x56 (![] : Fin 0 → Fin S862x16x56.rank)
  reducesTo_S862x16x56_S_d0_1_2 : S862x16x56.ReducesTo [0, 1, 2] S_
  bcast_S_S862x56 : S_.BroadcastsInDim S862x56 (![] : Fin 0 → Fin S862x56.rank)
  reducesTo_S862x56_S_d0_1 : S862x56.ReducesTo [0, 1] S_

variable [Facts]

def fn_part1 {F : FTy → Type} [FloatOps F] (main_arg4 : FVec F S862x56 .f32) (main_v13 : IVec S_ 1) (main_v16 : IVec S862x16x56 1) : IVec S_ 1 :=
  let main_c_5 : IVec S_ 1 := constantI S_ 1 1#1
  let main_v17 : IVec S_ 1 := (fun x v => Host.reduce IntOp.andi x v reducesTo_S862x16x56_S_d0_1_2 h_S_) main_v16 main_c_5
  let main_v18 : IVec S_ 1 := andi main_v13 main_v17
  let main_v19 : FVec F S862x56 .f32 := Host.absf main_arg4
  let main_cst_6 : FVec F S_ .f32 := constant S_ .f32 0x7F800000#32
  let main_v20 : FVec F S862x56 .f32 := broadcastInDim S862x56 ![] bcast_S_S862x56 main_cst_6
  let main_v21 : IVec S862x56 1 := cmpf .olt main_v19 main_v20
  let main_c_7 : IVec S_ 1 := constantI S_ 1 1#1
  let main_v22 : IVec S_ 1 := (fun x v => Host.reduce IntOp.andi x v reducesTo_S862x56_S_d0_1 h_S_) main_v21 main_c_7
  let main_v23 : IVec S_ 1 := andi main_v18 main_v22
  main_v23

def fn {F : FTy → Type} [FloatOps F] (main_arg0 : FVec F S256x336x862 .f32) (main_arg1 : FVec F S862x56x16 .f32) (main_arg2 : FVec F S862x16 .f32) (main_arg3 : FVec F S862x16x56 .f32) (main_arg4 : FVec F S862x56 .f32) : IVec S_ 1 :=
  let main_v0 : FVec F S256x336x862 .f32 := Host.absf main_arg0
  let main_cst : FVec F S_ .f32 := constant S_ .f32 0x7F800000#32
  let main_v1 : FVec F S256x336x862 .f32 := broadcastInDim S256x336x862 ![] bcast_S_S256x336x862 main_cst
  let main_v2 : IVec S256x336x862 1 := cmpf .olt main_v0 main_v1
  let main_c : IVec S_ 1 := constantI S_ 1 1#1
  let main_v3 : IVec S_ 1 := (fun x v => Host.reduce IntOp.andi x v reducesTo_S256x336x862_S_d0_1_2 h_S_) main_v2 main_c
  let main_v4 : FVec F S862x56x16 .f32 := Host.absf main_arg1
  let main_cst_0 : FVec F S_ .f32 := constant S_ .f32 0x7F800000#32
  let main_v5 : FVec F S862x56x16 .f32 := broadcastInDim S862x56x16 ![] bcast_S_S862x56x16 main_cst_0
  let main_v6 : IVec S862x56x16 1 := cmpf .olt main_v4 main_v5
  let main_c_1 : IVec S_ 1 := constantI S_ 1 1#1
  let main_v7 : IVec S_ 1 := (fun x v => Host.reduce IntOp.andi x v reducesTo_S862x56x16_S_d0_1_2 h_S_) main_v6 main_c_1
  let main_v8 : IVec S_ 1 := andi main_v3 main_v7
  let main_v9 : FVec F S862x16 .f32 := Host.absf main_arg2
  let main_cst_2 : FVec F S_ .f32 := constant S_ .f32 0x7F800000#32
  let main_v10 : FVec F S862x16 .f32 := broadcastInDim S862x16 ![] bcast_S_S862x16 main_cst_2
  let main_v11 : IVec S862x16 1 := cmpf .olt main_v9 main_v10
  let main_c_3 : IVec S_ 1 := constantI S_ 1 1#1
  let main_v12 : IVec S_ 1 := (fun x v => Host.reduce IntOp.andi x v reducesTo_S862x16_S_d0_1 h_S_) main_v11 main_c_3
  let main_v13 : IVec S_ 1 := andi main_v8 main_v12
  let main_v14 : FVec F S862x16x56 .f32 := Host.absf main_arg3
  let main_cst_4 : FVec F S_ .f32 := constant S_ .f32 0x7F800000#32
  let main_v15 : FVec F S862x16x56 .f32 := broadcastInDim S862x16x56 ![] bcast_S_S862x16x56 main_cst_4
  let main_v16 : IVec S862x16x56 1 := cmpf .olt main_v14 main_v15
  fn_part1 (F := F) main_arg4 main_v13 main_v16
-- ==== Kernel.lean ====
abbrev S256x336x862 : Shape := ⟨3, ![256, 336, 862]⟩
abbrev S862x56x16 : Shape := ⟨3, ![862, 56, 16]⟩
abbrev S862x16 : Shape := ⟨2, ![862, 16]⟩
abbrev S862x16x56 : Shape := ⟨3, ![862, 16, 56]⟩
abbrev S862x56 : Shape := ⟨2, ![862, 56]⟩
abbrev S16x56x862 : Shape := ⟨3, ![16, 56, 862]⟩
abbrev S16x56x6x862 : Shape := ⟨4, ![16, 56, 6, 862]⟩
abbrev S16x336x862 : Shape := ⟨3, ![16, 336, 862]⟩
abbrev S16x862 : Shape := ⟨2, ![16, 862]⟩
abbrev S56x862 : Shape := ⟨2, ![56, 862]⟩
abbrev S56x6x862 : Shape := ⟨3, ![56, 6, 862]⟩
abbrev S336x862 : Shape := ⟨2, ![336, 862]⟩
abbrev S16x336x128 : Shape := ⟨3, ![16, 336, 128]⟩
abbrev S16x128 : Shape := ⟨2, ![16, 128]⟩
abbrev S336x128 : Shape := ⟨2, ![336, 128]⟩
abbrev S1x128 : Shape := ⟨2, ![1, 128]⟩
abbrev S1x336x128 : Shape := ⟨3, ![1, 336, 128]⟩
abbrev S24x128 : Shape := ⟨2, ![24, 128]⟩
abbrev S128 : Shape := ⟨1, ![128]⟩
abbrev S1x168x128 : Shape := ⟨3, ![1, 168, 128]⟩
abbrev S168x128 : Shape := ⟨2, ![168, 128]⟩
abbrev S12x128 : Shape := ⟨2, ![12, 128]⟩
abbrev S18x128 : Shape := ⟨2, ![18, 128]⟩
abbrev S6x128 : Shape := ⟨2, ![6, 128]⟩

abbrev nBuf : Space → Nat
  | .hbm => 16
  | .vmem => 13
  | .smem => 0
  | _ => 0

abbrev bufTy : (tb : Table) → Fin (tcTables nBuf tb) → BufTy
  | .hbm, ⟨0, _⟩ => ⟨S256x336x862, .f32⟩
  | .hbm, ⟨1, _⟩ => ⟨S862x56x16, .f32⟩
  | .hbm, ⟨2, _⟩ => ⟨S862x16, .f32⟩
  | .hbm, ⟨3, _⟩ => ⟨S862x16x56, .f32⟩
  | .hbm, ⟨4, _⟩ => ⟨S862x56, .f32⟩
  | .hbm, ⟨5, _⟩ => ⟨S16x56x862, .f32⟩
  | .hbm, ⟨6, _⟩ => ⟨S16x56x6x862, .f32⟩
  | .hbm, ⟨7, _⟩ => ⟨S16x336x862, .f32⟩
  | .hbm, ⟨8, _⟩ => ⟨S16x56x862, .f32⟩
  | .hbm, ⟨9, _⟩ => ⟨S16x56x6x862, .f32⟩
  | .hbm, ⟨10, _⟩ => ⟨S16x336x862, .f32⟩
  | .hbm, ⟨11, _⟩ => ⟨S16x862, .f32⟩
  | .hbm, ⟨12, _⟩ => ⟨S56x862, .f32⟩
  | .hbm, ⟨13, _⟩ => ⟨S56x6x862, .f32⟩
  | .hbm, ⟨14, _⟩ => ⟨S336x862, .f32⟩
  | .hbm, ⟨15, _⟩ => ⟨S256x336x862, .f32⟩
  | .local _ .vmem, ⟨0, _⟩ => ⟨S16x336x128, .f32⟩
  | .local _ .vmem, ⟨1, _⟩ => ⟨S16x336x128, .f32⟩
  | .local _ .vmem, ⟨2, _⟩ => ⟨S16x336x128, .f32⟩
  | .local _ .vmem, ⟨3, _⟩ => ⟨S16x336x128, .f32⟩
  | .local _ .vmem, ⟨4, _⟩ => ⟨S16x128, .f32⟩
  | .local _ .vmem, ⟨5, _⟩ => ⟨S16x128, .f32⟩
  | .local _ .vmem, ⟨6, _⟩ => ⟨S16x336x128, .f32⟩
  | .local _ .vmem, ⟨7, _⟩ => ⟨S16x336x128, .f32⟩
  | .local _ .vmem, ⟨8, _⟩ => ⟨S336x128, .f32⟩
  | .local _ .vmem, ⟨9, _⟩ => ⟨S336x128, .f32⟩
  | .local _ .vmem, ⟨10, _⟩ => ⟨S16x336x128, .f32⟩
  | .local _ .vmem, ⟨11, _⟩ => ⟨S16x336x128, .f32⟩
  | .local _ .vmem, ⟨12, _⟩ => ⟨S336x128, .f32⟩
  | _, _ => ⟨S256x336x862, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![7, 16], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v4 : Index := Scalar.indexCast arg9
  let c0 : Index := 0#32
  let c0_3 : Index := 0#32
  ![v4.toNat, 0, 0]
def k0_off2 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v38 : Index := Scalar.indexCast arg9
  let c0_5 : Index := 0#32
  let c0_6 : Index := 0#32
  ![v38.toNat, 0, 0]
def k0_off3 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v299 : Index := Scalar.indexCast arg9
  let c168 : Index := 168#32
  let c0_40 : Index := 0#32
  ![v299.toNat, 168, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S16x336x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x336x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x336x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S336x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x336x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_len" => some ((1 / 336 : ℝ) : EReal)
  | "r2h" => some (((Real.sqrt 2)⁻¹ : ℝ) : EReal)
  | "r3s" => some (((2 * (Real.sqrt 3))⁻¹ : ℝ) : EReal)
  | "r3t" => some (((Real.sqrt 3)⁻¹ : ℝ) : EReal)
  | "r6t" => some ((2 * (Real.sqrt 6)⁻¹ : ℝ) : EReal)
  | _ => none
-- ==== ReferenceIdeal.lean ====
abbrev S256x336x862 : Shape := ⟨3, ![256, 336, 862]⟩
abbrev S862x56x16 : Shape := ⟨3, ![862, 56, 16]⟩
abbrev S862x16 : Shape := ⟨2, ![862, 16]⟩
abbrev S862x16x56 : Shape := ⟨3, ![862, 16, 56]⟩
abbrev S862x56 : Shape := ⟨2, ![862, 56]⟩
abbrev S6 : Shape := ⟨1, ![6]⟩
abbrev S_ : Shape := ⟨0, ![]⟩
abbrev S1x6 : Shape := ⟨2, ![1, 6]⟩
abbrev S6x1 : Shape := ⟨2, ![6, 1]⟩
abbrev S6x6 : Shape := ⟨2, ![6, 6]⟩
abbrev S256x862 : Shape := ⟨2, ![256, 862]⟩
abbrev S256x1x862 : Shape := ⟨3, ![256, 1, 862]⟩
abbrev S256x862x336 : Shape := ⟨3, ![256, 862, 336]⟩
abbrev S256x862x56x6 : Shape := ⟨4, ![256, 862, 56, 6]⟩
abbrev S862x16x256x6 : Shape := ⟨4, ![862, 16, 256, 6]⟩
abbrev S256x862x6x16 : Shape := ⟨4, ![256, 862, 6, 16]⟩
abbrev S1x862x1x16 : Shape := ⟨4, ![1, 862, 1, 16]⟩
abbrev S862x56x256x6 : Shape := ⟨4, ![862, 56, 256, 6]⟩
abbrev S256x862x6x56 : Shape := ⟨4, ![256, 862, 6, 56]⟩
abbrev S1x862x1x56 : Shape := ⟨4, ![1, 862, 1, 56]⟩

abbrev nBuf : Space → Nat
  | .hbm => 65
  | .vmem => 0
  | .smem => 0
  | _ => 0

abbrev bufTy : (tb : Table) → Fin (tcTables nBuf tb) → BufTy
  | .hbm, ⟨0, _⟩ => ⟨S256x336x862, .f32⟩
  | .hbm, ⟨1, _⟩ => ⟨S862x56x16, .f32⟩
  | .hbm, ⟨2, _⟩ => ⟨S862x16, .f32⟩
  | .hbm, ⟨3, _⟩ => ⟨S862x16x56, .f32⟩
  | .hbm, ⟨4, _⟩ => ⟨S862x56, .f32⟩
  | .hbm, ⟨5, _⟩ => ⟨S6, .i32⟩
  | .hbm, ⟨6, _⟩ => ⟨S6, .f32⟩
  | .hbm, ⟨7, _⟩ => ⟨S_, .f32⟩
  | .hbm, ⟨8, _⟩ => ⟨S_, .f32⟩
  | .hbm, ⟨9, _⟩ => ⟨S1x6, .f32⟩
  | .hbm, ⟨10, _⟩ => ⟨S_, .f32⟩
  | .hbm, ⟨11, _⟩ => ⟨S1x6, .f32⟩
  | .hbm, ⟨12, _⟩ => ⟨S1x6, .f32⟩
  | .hbm, ⟨13, _⟩ => ⟨S1x6, .f32⟩
  | .hbm, ⟨14, _⟩ => ⟨S1x6, .f32⟩
  | .hbm, ⟨15, _⟩ => ⟨S6x1, .f32⟩
  | .hbm, ⟨16, _⟩ => ⟨S6x6, .f32⟩
  | .hbm, ⟨17, _⟩ => ⟨S6x6, .f32⟩
  | .hbm, ⟨18, _⟩ => ⟨S6x6, .f32⟩
  | .hbm, ⟨19, _⟩ => ⟨S_, .f32⟩
  | .hbm, ⟨20, _⟩ => ⟨S6x6, .f32⟩
  | .hbm, ⟨21, _⟩ => ⟨S6x6, .f32⟩
  | .hbm, ⟨22, _⟩ => ⟨S6x6, .f32⟩
  | .hbm, ⟨23, _⟩ => ⟨S_, .f32⟩
  | .hbm, ⟨24, _⟩ => ⟨S6, .f32⟩
  | .hbm, ⟨25, _⟩ => ⟨S6, .i1⟩
  | .hbm, ⟨26, _⟩ => ⟨S_, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S6, .f32⟩
  | .hbm, ⟨31, _⟩ => ⟨S_, .f32⟩
  | .hbm, ⟨32, _⟩ => ⟨S6, .f32⟩
  | .hbm, ⟨33, _⟩ => ⟨S6, .f32⟩
  | .hbm, ⟨34, _⟩ => ⟨S6, .f32⟩
  | .hbm, ⟨35, _⟩ => ⟨S6x1, .f32⟩
  | .hbm, ⟨36, _⟩ => ⟨S6x1, .f32⟩
  | .hbm, ⟨37, _⟩ => ⟨S6x6, .f32⟩
  | .hbm, ⟨38, _⟩ => ⟨S6x6, .f32⟩
  | .hbm, ⟨39, _⟩ => ⟨S_, .f32⟩
  | .hbm, ⟨40, _⟩ => ⟨S256x862, .f32⟩
  | .hbm, ⟨41, _⟩ => ⟨S256x1x862, .f32⟩
  | .hbm, ⟨42, _⟩ => ⟨S_, .f32⟩
  | .hbm, ⟨43, _⟩ => ⟨S256x1x862, .f32⟩
  | .hbm, ⟨44, _⟩ => ⟨S256x1x862, .f32⟩
  | .hbm, ⟨45, _⟩ => ⟨S256x336x862, .f32⟩
  | .hbm, ⟨46, _⟩ => ⟨S256x336x862, .f32⟩
  | .hbm, ⟨47, _⟩ => ⟨S256x862x336, .f32⟩
  | .hbm, ⟨48, _⟩ => ⟨S256x862x56x6, .f32⟩
  | .hbm, ⟨49, _⟩ => ⟨S256x862x56x6, .f32⟩
  | .hbm, ⟨50, _⟩ => ⟨S862x16x256x6, .f32⟩
  | .hbm, ⟨51, _⟩ => ⟨S256x862x6x16, .f32⟩
  | .hbm, ⟨52, _⟩ => ⟨S1x862x1x16, .f32⟩
  | .hbm, ⟨53, _⟩ => ⟨S256x862x6x16, .f32⟩
  | .hbm, ⟨54, _⟩ => ⟨S256x862x6x16, .f32⟩
  | .hbm, ⟨55, _⟩ => ⟨S862x56x256x6, .f32⟩
  | .hbm, ⟨56, _⟩ => ⟨S256x862x6x56, .f32⟩
  | .hbm, ⟨57, _⟩ => ⟨S1x862x1x56, .f32⟩
  | .hbm, ⟨58, _⟩ => ⟨S256x862x6x56, .f32⟩
  | .hbm, ⟨59, _⟩ => ⟨S256x862x6x56, .f32⟩
  | .hbm, ⟨60, _⟩ => ⟨S256x862x56x6, .f32⟩
  | .hbm, ⟨61, _⟩ => ⟨S256x862x336, .f32⟩
  | .hbm, ⟨62, _⟩ => ⟨S256x336x862, .f32⟩
  | .hbm, ⟨63, _⟩ => ⟨S256x336x862, .f32⟩
  | .hbm, ⟨64, _⟩ => ⟨S256x336x862, .f32⟩
  | _, _ => ⟨S256x336x862, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Proof.KernelIdealRun.lean ====
/- The kernel's body at one grid point, over the extended reals: it runs, and leaves its input blocks as they were. -/
module

public import proofs.«01_k».proof.Proof.Gen.KernelIdeal.Frame
public import proofs.«01_k».proof.Proof.Gen.KernelIdeal.Loops
public import Idealize.ShloMosaic.Lib.Pipeline.KitQuiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- A buffer held at any contents is owned at what those contents read as. -/
theorem owns_some {sh : Shape} {e : EltTy} (c : Dev nD) (a : Memref sig .tc .vmem sh e) (f : a.view.ty.Contents (Elt F)) :
    (a.view.loc (c : Thread nD τ) ↦[a.view.set]{fullShare} f : sProp 𝕄)
      ⊢ iprop(∃ Y, owns (c : Thread nD τ) a fullShare Y) := by
  iintro H
  iexists a.view.read (Elt F) f
  unfold owns
  iexists f
  isplitr; · ipureintro; rfl
  iexact H

set_option maxHeartbeats 2000000 in
/-- The kernel body on whole buffers: whatever the six staging buffers and the scratch hold, it runs to the
    end, the five input buffers as they were, the output buffer and the scratch at some contents. -/
theorem body_run (c : Dev nD) (E : Set ℕ) (i : grid0.Coords)
    (arg2 : Memref sig .tc .vmem S16x336x128 .f32) (harg2 : arg2.IsWhole) (arg3 : Memref sig .tc .vmem S16x336x128 .f32) (harg3 : arg3.IsWhole)
    (arg4 : Memref sig .tc .vmem S16x128 .f32) (harg4 : arg4.IsWhole) (arg5 : Memref sig .tc .vmem S16x336x128 .f32) (harg5 : arg5.IsWhole)
    (arg6 : Memref sig .tc .vmem S336x128 .f32) (harg6 : arg6.IsWhole) (arg7 : Memref sig .tc .vmem S16x336x128 .f32) (harg7 : arg7.IsWhole)
    (arg8 : Memref sig .tc .vmem S336x128 .f32) (harg8 : arg8.IsWhole)
    (X2 : Vec F S16x336x128 .f32) (X3 : Vec F S16x336x128 .f32) (X4 : Vec F S16x128 .f32) (X5 : Vec F S16x336x128 .f32)
    (X6 : Vec F S336x128 .f32) (Y : Vec F S16x336x128 .f32) (S : Vec F S336x128 .f32) (K : PUnit → sProp 𝕄) :
    iprop((owns (c : Thread nD τ) arg2 fullShare X2 ∗ owns (c : Thread nD τ) arg3 fullShare X3 ∗ owns (c : Thread nD τ) arg4 fullShare X4
          ∗ owns (c : Thread nD τ) arg5 fullShare X5 ∗ owns (c : Thread nD τ) arg6 fullShare X6 ∗ owns (c : Thread nD τ) arg7 fullShare Y
          ∗ owns (c : Thread nD τ) arg8 fullShare S)
        ∗ (iprop((owns (c : Thread nD τ) arg2 fullShare X2 ∗ owns (c : Thread nD τ) arg3 fullShare X3 ∗ owns (c : Thread nD τ) arg4 fullShare X4
          ∗ owns (c : Thread nD τ) arg5 fullShare X5 ∗ owns (c : Thread nD τ) arg6 fullShare X6 ∗ (∃ Y', owns (c : Thread nD τ) arg7 fullShare Y')
          ∗ (∃ S', owns (c : Thread nD τ) arg8 fullShare S'))) -∗ K ⟨⟩))
      ⊢ wp frame (wpE (defs₀ (F := F)) Variants.none c none) E
          (cc0_esn_ltf_fused i arg2 harg2 arg3 harg3 arg4 harg4 arg5 harg5 arg6 harg6 arg7 harg7 arg8 harg8) K := by
  simp only [cc0_esn_ltf_fused_eq_skeleton]; unfold cc0_esn_ltf_fused_skel
  simp only [k0_part1_eq_skeleton, k0_part2_eq_skeleton, k0_part3_eq_skeleton, k0_part4_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  by_cases hc : Scalar.cmpi .ne (Scalar.extui (Scalar.cmpi .eq (BitVec.ofNat 32 (i 1).val) 0#32) : BitVec 32) 0#32 = 1#1
  · sl_exec (disch := exact hc)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iapply (owns_some c arg7 _); iexact H7
    iapply (owns_some c arg8 _); iexact H8
  · sl_exec (disch := exact hc)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iapply (owns_some c arg7 _); iexact H7
    iapply (owns_some c arg8 _); iexact H8

end Cert.KernelIdeal.Hand

end
-- ==== Proof.KernelIdealFrame.lean ====
/- The kernel's whole run, over the extended reals: it ends, with its arguments as they were and every semaphore at
   zero. -/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the frame: each array as the region finds it, what the staging buffers hold left open
    (every window is forgotten below), the scratch held at some contents between the points. -/
def frameDats (_ : Fin 1) (c : Dev nD) : Dat τ (Elt F) Unit ℕ (UR sig nD τ) ℕ cfg0 c where
  A w := V m c (Pipeline.arrRef spec0 w)
  after _ _ := Classical.arbitrary _
  Φ _ := Pipeline.ΦA spec0 c
  q _ := fullShare
  owed _ := 0

/-- At every point the kernel body runs from buffers of any contents and hands them back at some contents. -/
theorem frame_obligation (c : Dev nD) :
    BodyObligationLoose (frameDats m 0 c) (defs₀ (F := F)) Variants.none () Set.univ (fun _ => true) := fun t => by
  rw [bigSep_W0]
  simp only
  rw [show (frameDats m 0 c).Φ t.succ = Pipeline.ΦA spec0 c from rfl,
    show (frameDats m 0 c).Φ t.castSucc = Pipeline.ΦA spec0 c from rfl,
    show (frameDats m 0 c).owesAt () t.succ = (frameDats m 0 c).owesAt () t.castSucc from rfl]
  unfold Pipeline.ΦA
  rw [scopedRest0_eq]
  iintro ⟨⟨⟨%S, HS⟩, HP⟩, Ho, ⟨%X0, H0⟩, ⟨%X1, H1⟩, ⟨%X2, H2⟩, ⟨%X3, H3⟩, ⟨%X4, H4⟩, ⟨%X5, H5⟩⟩
  iapply (body_run c Set.univ (grid0.coords t) _ _ _ _ _ _ _ _ _ _ _ _ _ _ X0 X1 X2 X3 X4 X5 S _)
  isplitl [H0 H1 H2 H3 H4 H5 HS]
  · rw [owns_whole_eq]
    iframe
    iexists S
    isplitr
    · ipureintro; rfl
    · iexact HS
  · simp only [owns_whole_eq]
    iintro ⟨H0, H1, H2, H3, H4, ⟨%Y, H5⟩, ⟨%S', ⟨%f, %hf, HS⟩⟩⟩
    isplitl [HS HP]
    · isplitl [HS]
      · iexists f; iexact HS
      · iexact HP
    · isplitl [Ho]
      · iexact Ho
      · isplitl [H0]
        · iexists X0; iexact H0
        · isplitl [H1]
          · iexists X1; iexact H1
          · isplitl [H2]
            · iexists X2; iexact H2
            · isplitl [H3]
              · iexists X3; iexact H3
              · isplitl [H4]
                · iexists X4; iexact H4
                · iexists Y; iexact H5

set_option backward.isDefEq.respectTransparency.types false in
/-- The kernel runs to the end from any memory, leaves its five arguments as they were and every counter at zero. -/
theorem frame_run : θ_run (defs (F := F)) (onTc (τ := τ) (main (F := F)))
    ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  Pipeline.θ_run_frame_forget cfgs (frameDats m) 0 launch0 defs₀ Variants.none (fun _ => true) m ρ _
    (frame_obligation m) (fun c w => (frameDats m 0 c).share_full (fun _ => rfl) w) (fun _ _ => rfl) (V m) (hmain m _) (fun _ _ => rfl) (fun _ _ => rfl) _
    fun r h => ⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩

end Cert.KernelIdeal.Hand

end
-- ==== Proof.Claims.lean ====
/- The frame claims and the `preserves` claim, each from the module that proves its run. -/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

namespace Cert.Proof

open Idealize.ShloMosaic Idealize.SL.Sem

/-- The kernel's frame, at machine words. -/
theorem frame_kernel : Cert.quiescent_Kernel := fun m ρ _ => Cert.Kernel.Hand.frame_run m ρ

/-- The idealized kernel's frame. -/
theorem frame_kernelIdeal : Cert.quiescent_KernelIdeal := fun m ρ _ => Cert.KernelIdeal.Hand.frame_run m ρ

/-- The idealized reference's frame: its run leaves the arguments, and it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each of the five named constants has the value the table gives its name. -/
theorem preserves : Cert.preserves_Kernel_KernelIdeal :=
  ⟨IdealRules.named_const.statement Cert.KernelIdeal.κ "r2h" .f32 0x3F3504F3#32 (((Real.sqrt 2)⁻¹ : ℝ) : EReal) rfl,
    IdealRules.named_const.statement Cert.KernelIdeal.κ "r3s" .f32 0x3E93CD3A#32 (((2 * (Real.sqrt 3))⁻¹ : ℝ) : EReal) rfl,
    IdealRules.named_const.statement Cert.KernelIdeal.κ "r6t" .f32 0x3F5105EC#32 ((2 * (Real.sqrt 6)⁻¹ : ℝ) : EReal) rfl,
    IdealRules.named_const.statement Cert.KernelIdeal.κ "r3t" .f32 0x3F13CD3A#32 (((Real.sqrt 3)⁻¹ : ℝ) : EReal) rfl,
    IdealRules.named_const.statement Cert.KernelIdeal.κ "inv_len" .f32 0x3B430C31#32 ((1 / 336 : ℝ) : EReal) rfl⟩

end Cert.Proof

end
-- ==== Proof.PhaseSum.lean ====
/- Sums over the 336 rows of a column, cut the ways the two programs cut them: bands of 24 rows, and the 56 segments of
   six rows. -/
module

public import Mathlib.Algebra.BigOperators.Fin
public import Mathlib.Algebra.Group.Fin.Basic
public import Mathlib.Data.EReal.Basic

@[expose] public section

noncomputable section

namespace Cert.Proof

variable {M : Type*} [AddCommMonoid M]

/-- Row `n` of segment `s`. -/
def seg (s : Fin 56) (n : Fin 6) : Fin 336 := ⟨6 * s.val + n.val, by omega⟩

/-- The phase of a row: its place in its segment. -/
def phase {N : ℕ} (r : Fin N) : Fin 6 := ⟨r.val % 6, by omega⟩

/-- The segment of a row. -/
def segOf (l : Fin 336) : Fin 56 := ⟨l.val / 6, by omega⟩

theorem seg_segOf_phase (l : Fin 336) : seg (segOf l) (phase l) = l := by
  apply Fin.ext
  show 6 * (l.val / 6) + l.val % 6 = l.val
  omega

theorem segOf_seg (s : Fin 56) (n : Fin 6) : segOf (seg s n) = s := by
  apply Fin.ext
  show (6 * s.val + n.val) / 6 = s.val
  omega

theorem phase_seg (s : Fin 56) (n : Fin 6) : phase (seg s n) = n := by
  apply Fin.ext
  show (6 * s.val + n.val) % 6 = n.val
  omega

/-- Seven bands of each half are the fourteen bands of the whole. -/
theorem bands_add (f : Fin 336 → M) (r : Fin 24) :
    (∑ g : Fin 7, f ⟨24 * g.val + r.val, by omega⟩) + ∑ g : Fin 7, f ⟨168 + (24 * g.val + r.val), by omega⟩
      = ∑ g : Fin 14, f ⟨24 * g.val + r.val, by omega⟩ := by
  refine Eq.trans ?_ (Fin.sum_univ_add (a := 7) (b := 7) fun g : Fin (7 + 7) => f ⟨24 * g.val + r.val, by omega⟩).symm
  refine congrArg _ (Finset.sum_congr rfl fun g _ => congrArg f (Fin.ext ?_))
  simp only [Fin.val_natAdd]
  omega

/-- Adding the bands and then the rows of a band adds every row. -/
theorem sum_bands (f : Fin 336 → M) : ∑ r : Fin 24, ∑ g : Fin 14, f ⟨24 * g.val + r.val, by omega⟩ = ∑ l, f l := by
  rw [Finset.sum_comm, ← Fintype.sum_prod_type', ← (finProdFinEquiv (m := 14) (n := 24)).sum_comp f]
  exact Finset.sum_congr rfl fun p _ => congrArg f (Fin.ext (by simp [finProdFinEquiv, add_comm]))

/-- The rows of one phase, four of them in each band, are that row of every segment. -/
theorem sum_phase (f : Fin 336 → M) (n : Fin 6) :
    ∑ j : Fin 4, ∑ g : Fin 14, f ⟨24 * g.val + (6 * j.val + n.val), by omega⟩ = ∑ s, f (seg s n) := by
  rw [Finset.sum_comm, ← Fintype.sum_prod_type', ← (finProdFinEquiv (m := 14) (n := 4)).sum_comp fun s => f (seg s n)]
  exact Finset.sum_congr rfl fun p _ => congrArg f (Fin.ext (by simp only [finProdFinEquiv, seg, Equiv.coe_fn_mk]; omega))

/-- A value on 24 rows, turned by 12 and added, turned by 6 and added: the sum over the four rows of the phase. -/
theorem sum_turns (u : Fin 24 → M) (r : Fin 24) :
    (u r + u ⟨(r.val + 12) % 24, by omega⟩) + (u ⟨(r.val + 6) % 24, by omega⟩ + u ⟨((r.val + 6) % 24 + 12) % 24, by omega⟩)
      = ∑ j : Fin 4, u ⟨6 * j.val + (phase r).val, by have := (phase r).isLt; omega⟩ := by
  obtain ⟨a, n, hr⟩ : ∃ (a : Fin 4) (n : Fin 6), r = ⟨6 * a.val + n.val, by omega⟩ :=
    ⟨⟨r.val / 6, by omega⟩, ⟨r.val % 6, by omega⟩, Fin.ext (by show r.val = 6 * (r.val / 6) + r.val % 6; omega)⟩
  subst hr
  have hp : phase (⟨6 * a.val + n.val, by omega⟩ : Fin 24) = n := Fin.ext (by show (6 * a.val + n.val) % 6 = n.val; omega)
  simp only [hp]
  have key : ∀ k : ℕ, ∀ h : (6 * a.val + n.val + 6 * k) % 24 < 24, (⟨(6 * a.val + n.val + 6 * k) % 24, h⟩ : Fin 24)
      = ⟨6 * ((a + Fin.ofNat 4 k).val) + n.val, by omega⟩ := fun k h => Fin.ext (by
    simp only [Fin.val_add, Fin.ofNat]; omega)
  have h1 : (u ⟨6 * a.val + n.val, by omega⟩ + u ⟨(6 * a.val + n.val + 12) % 24, by omega⟩)
      + (u ⟨(6 * a.val + n.val + 6) % 24, by omega⟩ + u ⟨((6 * a.val + n.val + 6) % 24 + 12) % 24, by omega⟩)
      = ∑ j : Fin 4, u ⟨6 * (a + j).val + n.val, by omega⟩ := by
    have e0 : (⟨6 * a.val + n.val, by omega⟩ : Fin 24) = ⟨6 * (a + 0).val + n.val, by omega⟩ := by simp
    have e2 : (⟨(6 * a.val + n.val + 12) % 24, by omega⟩ : Fin 24) = ⟨6 * (a + 2).val + n.val, by omega⟩ := key 2 (by omega)
    have e1 : (⟨(6 * a.val + n.val + 6) % 24, by omega⟩ : Fin 24) = ⟨6 * (a + 1).val + n.val, by omega⟩ := key 1 (by omega)
    have e3 : (⟨((6 * a.val + n.val + 6) % 24 + 12) % 24, by omega⟩ : Fin 24) = ⟨6 * (a + 3).val + n.val, by omega⟩ := by
      refine Fin.ext (Eq.trans ?_ (congrArg Fin.val (key 3 (by omega))))
      show ((6 * a.val + n.val + 6) % 24 + 12) % 24 = (6 * a.val + n.val + 18) % 24
      omega
    rw [e1, e2, e3, e0, Fin.sum_univ_four]
    generalize u _ = p0; generalize u _ = p2; generalize u _ = p1; generalize u _ = p3
    rw [add_add_add_comm, add_assoc (p0 + p1)]
  rw [h1]
  exact Equiv.sum_comp (Equiv.addLeft a) fun j : Fin 4 => u ⟨6 * j.val + n.val, by omega⟩

/-- The turned sum of the banded sums over both halves is the sum over the segments. -/
theorem turned_bands (f : Fin 336 → M) (u : Fin 24 → M)
    (hu : ∀ r : Fin 24, u r = (∑ g : Fin 7, f ⟨24 * g.val + r.val, by omega⟩) + ∑ g : Fin 7, f ⟨168 + (24 * g.val + r.val), by omega⟩)
    (r : Fin 24) :
    (u r + u ⟨(r.val + 12) % 24, by omega⟩) + (u ⟨(r.val + 6) % 24, by omega⟩ + u ⟨((r.val + 6) % 24 + 12) % 24, by omega⟩)
      = ∑ s, f (seg s (phase r)) := by
  rw [sum_turns u r, ← sum_phase f (phase r)]
  exact Finset.sum_congr rfl fun j _ => by rw [hu, bands_add]

end Cert.Proof

end
-- ==== Proof.ReferenceValue.lean ====
/- What the reference computes at an entry: the cosine transform of the centred segments, the two linear layers along the
   segments, the transform back and the mean. -/
module

public import proofs.«01_k».proof.Proof.PhaseSum
public import proofs.«01_k».proof.Proof.Gen.ReferenceIdeal.Run
public import Idealize.ShloMosaic.Lib.Pointwise
public import Idealize.ShloMosaic.PureOps.Ideal

@[expose] public section

set_option maxRecDepth 16384

noncomputable section

namespace Cert.ReferenceIdeal.Hand

open Cert.Proof
open Cert.ReferenceIdeal Cert.ReferenceIdeal.Gen Cert.ReferenceIdeal.Value
open Idealize.ShloMosaic Idealize.ShloMosaic.TcCoe Idealize.ShloMosaic.Tactic
open Idealize.SL Idealize.SL.Sem

/-- The sequence numbers 0 to 5 as floats. -/
def counts : FVec Ideal S6 .f32 := sitofp .f32 (iotaInDim S6 32 0)

/-- The matrix of the cosine transform, as the reference builds it. -/
def dctMatrix : FVec Ideal S6x6 .f32 :=
  mulf (Host.cos (Host.divf (mulf (broadcastInDim S6x6 ![0, 1] bcast_S1x6_S6x6_0_1
      (mulf (broadcastInDim S1x6 ![] bcast_S_S1x6 (Host.acos (constant S_ .f32 0xBF800000#32)))
        (addf (broadcastInDim S1x6 ![1] bcast_S6_S1x6_1 counts) (broadcastInDim S1x6 ![] bcast_S_S1x6 (constant S_ .f32 0x3F000000#32)))))
      (broadcastInDim S6x6 ![0, 1] bcast_S6x1_S6x6_0_1 (broadcastInDim S6x1 ![0] bcast_S6_S6x1_0 counts)))
      (broadcastInDim S6x6 ![] bcast_S_S6x6 (constant S_ .f32 0x40C00000#32))))
    (broadcastInDim S6x6 ![0, 1] bcast_S6x1_S6x6_0_1 (broadcastInDim S6x1 ![0] bcast_S6_S6x1_0 (Host.sqrt (Host.divf
      (select (cmpf .oeq counts (broadcastInDim S6 ![] bcast_S_S6 (constant S_ .f32 0x00000000#32)))
        (broadcastInDim S6 ![] bcast_S_S6 (constant S_ .f32 0x3F800000#32)) (broadcastInDim S6 ![] bcast_S_S6 (constant S_ .f32 0x40000000#32)))
      (broadcastInDim S6 ![] bcast_S_S6 (constant S_ .f32 0x40C00000#32))))))

/-- The mean of each column of the input. -/
def columnMean (x : FVec Ideal S256x336x862 .f32) : FVec Ideal S256x1x862 .f32 :=
  Host.divf (broadcastInDim S256x1x862 ![0, 2] bcast_S256x862_S256x1x862_0_2
      (Host.reduceAdd x (constant S_ .f32 0x00000000#32) reducesTo_S256x336x862_S256x862_d1 h_S_))
    (broadcastInDim S256x1x862 ![] bcast_S_S256x1x862 (constant S_ .f32 0x43A80000#32))

/-- The centred input in segments, transformed along each segment. -/
def frequencies (x : FVec Ideal S256x336x862 .f32) (D : FVec Ideal S6x6 .f32) : FVec Ideal S256x862x56x6 .f32 :=
  Host.dotGeneral dot_S256x862x56x6_S6x6_S256x862x56x6_3_1_012_0_n_n none
    (shapeCast S256x862x56x6 (transpose S256x862x336 [0, 2, 1]
      (subf x (broadcastInDim S256x336x862 ![0, 1, 2] bcast_S256x1x862_S256x336x862_0_1_2 (columnMean x)))
      transposes_S256x336x862_S256x862x336_0_2_1) shapeCasts_S256x862x336_S256x862x56x6) D

/-- The first layer, of every frequency. -/
def layerOne (f : FVec Ideal S256x862x56x6 .f32) (w1 : FVec Ideal S862x56x16 .f32) (b1 : FVec Ideal S862x16 .f32) : FVec Ideal S256x862x6x16 .f32 :=
  addf (transpose S256x862x6x16 [2, 0, 3, 1] (Host.dotGeneral dot_S862x56x16_S256x862x56x6_S862x16x256x6_1_2_2_03_0_1 none w1 f)
      transposes_S862x16x256x6_S256x862x6x16_2_0_3_1)
    (broadcastInDim S256x862x6x16 ![0, 1, 2, 3] bcast_S1x862x1x16_S256x862x6x16_0_1_2_3
      (broadcastInDim S1x862x1x16 ![1, 3] bcast_S862x16_S1x862x1x16_1_3 b1))

/-- The second layer, of every frequency. -/
def layerTwo (h : FVec Ideal S256x862x6x16 .f32) (w2 : FVec Ideal S862x16x56 .f32) (b2 : FVec Ideal S862x56 .f32) : FVec Ideal S256x862x6x56 .f32 :=
  addf (transpose S256x862x6x56 [2, 0, 3, 1] (Host.dotGeneral dot_S862x16x56_S256x862x6x16_S862x56x256x6_1_3_2_02_0_1 none w2 h)
      transposes_S862x56x256x6_S256x862x6x56_2_0_3_1)
    (broadcastInDim S256x862x6x56 ![0, 1, 2, 3] bcast_S1x862x1x56_S256x862x6x56_0_1_2_3
      (broadcastInDim S1x862x1x56 ![1, 3] bcast_S862x56_S1x862x1x56_1_3 b2))

/-- The transform back, in rows again, and the mean added. -/
def restored (y : FVec Ideal S256x862x6x56 .f32) (D : FVec Ideal S6x6 .f32) (x : FVec Ideal S256x336x862 .f32) : FVec Ideal S256x336x862 .f32 :=
  addf (transpose S256x336x862 [0, 2, 1] (shapeCast S256x862x336
      (Host.dotGeneral dot_S256x862x6x56_S6x6_S256x862x56x6_2_0_013_1_n_n none y D) shapeCasts_S256x862x56x6_S256x862x336)
      transposes_S256x862x336_S256x336x862_0_2_1)
    (broadcastInDim S256x336x862 ![0, 1, 2] bcast_S256x1x862_S256x336x862_0_1_2 (columnMean x))

/-- The reference's result is its stages composed. -/
theorem result_stages (m : (ℓ : Loc nD τ sig) → Buf (Elt Ideal) ℓ) (c : Dev nD) :
    res_main_v48 m c = restored (layerTwo (layerOne (frequencies (m ((c.tc : Thread nD τ).loc main_arg0)) dctMatrix)
      (m ((c.tc : Thread nD τ).loc main_arg1)) (m ((c.tc : Thread nD τ).loc main_arg2)))
      (m ((c.tc : Thread nD τ).loc main_arg3)) (m ((c.tc : Thread nD τ).loc main_arg4))) dctMatrix (m ((c.tc : Thread nD τ).loc main_arg0)) := by
  unfold res_main_v48
  rfl

theorem columnMean_apply (x : FVec Ideal S256x336x862 .f32) (b : Fin 256) (ch : Fin 862) :
    (columnMean x (ix3 b (0 : Fin 1) ch) : EReal) = Ideal.div (∑ l : Fin 336, x (ix3 b l ch)) ((336 : ℝ) : EReal) := by
  unfold columnMean
  pointwise
  rw [show Ideal.ofBits .f32 1135083520#32 = ((336 : ℝ) : EReal) by simp [Ideal.ofBits, Ideal.ieee, -EReal.coe_mul]; norm_num]

theorem frequencies_apply (x : FVec Ideal S256x336x862 .f32) (D : FVec Ideal S6x6 .f32) (b : Fin 256) (ch : Fin 862) (s : Fin 56) (k : Fin 6) :
    (frequencies x D (ix4 b ch s k) : EReal)
      = ∑ n : Fin 6, (x (ix3 b (seg s n) ch) - columnMean x (ix3 b (0 : Fin 1) ch)) * D (ix2 k n) := by
  unfold frequencies
  pointwise
  refine Finset.sum_congr rfl fun n _ => ?_
  rw [show (⟨s.val * 6 + n.val, by omega⟩ : Fin 336) = seg s n from Fin.ext (by show s.val * 6 + n.val = 6 * s.val + n.val; omega)]

theorem layerOne_apply (f : FVec Ideal S256x862x56x6 .f32) (w1 : FVec Ideal S862x56x16 .f32) (b1 : FVec Ideal S862x16 .f32)
    (b : Fin 256) (ch : Fin 862) (k : Fin 6) (h : Fin 16) :
    (layerOne f w1 b1 (ix4 b ch k h) : EReal) = (∑ s : Fin 56, w1 (ix3 ch s h) * f (ix4 b ch s k)) + b1 (ix2 ch h) := by
  unfold layerOne
  pointwise

theorem layerTwo_apply (h : FVec Ideal S256x862x6x16 .f32) (w2 : FVec Ideal S862x16x56 .f32) (b2 : FVec Ideal S862x56 .f32)
    (b : Fin 256) (ch : Fin 862) (k : Fin 6) (p : Fin 56) :
    (layerTwo h w2 b2 (ix4 b ch k p) : EReal) = (∑ g : Fin 16, w2 (ix3 ch g p) * h (ix4 b ch k g)) + b2 (ix2 ch p) := by
  unfold layerTwo
  pointwise

theorem restored_apply (y : FVec Ideal S256x862x6x56 .f32) (D : FVec Ideal S6x6 .f32) (x : FVec Ideal S256x336x862 .f32)
    (b : Fin 256) (l : Fin 336) (ch : Fin 862) :
    (restored y D x (ix3 b l ch) : EReal)
      = (∑ k : Fin 6, y (ix4 b ch k (segOf l)) * D (ix2 k (phase l))) + columnMean x (ix3 b (0 : Fin 1) ch) := by
  unfold restored
  pointwise
  rfl

/-- An entry of the cosine transform's matrix. -/
def dct (k n : Fin 6) : ℝ :=
  Real.cos (Real.pi * ((n.val : ℝ) + 1 / 2) * (k.val : ℝ) / 6) * Real.sqrt ((if k.val = 0 then 1 else 2) / 6)

theorem counts_apply (k : Fin 6) : (counts (ix1 k) : EReal) = ((k.val : ℝ) : EReal) := by
  unfold counts
  pointwise
  show (((BitVec.ofNat 32 k.val).toInt : ℝ) : EReal) = _
  rw [show (BitVec.ofNat 32 k.val).toInt = (k.val : ℤ) by fin_cases k <;> rfl, Int.cast_natCast]

theorem dctMatrix_apply (k n : Fin 6) : (dctMatrix (ix2 k n) : EReal) = ((dct k n : ℝ) : EReal) := by
  unfold dctMatrix
  pointwise
  simp only [counts_apply]
  rw [show Ideal.ofBits .f32 3212836864#32 = ((-1 : ℝ) : EReal) by simp [Ideal.ofBits, Ideal.ieee, -EReal.coe_mul]; norm_num,
    show Ideal.ofBits .f32 1056964608#32 = ((1 / 2 : ℝ) : EReal) by simp [Ideal.ofBits, Ideal.ieee, -EReal.coe_mul]; norm_num,
    show Ideal.ofBits .f32 1086324736#32 = ((6 : ℝ) : EReal) by simp [Ideal.ofBits, Ideal.ieee, -EReal.coe_mul]; norm_num,
    show Ideal.ofBits .f32 1073741824#32 = ((2 : ℝ) : EReal) by simp [Ideal.ofBits, Ideal.ieee, -EReal.coe_mul]; norm_num,
    Ideal.acos_coe, if_pos (by norm_num), Real.arccos_neg_one, ← EReal.coe_add, ← EReal.coe_mul, ← EReal.coe_mul,
    Ideal.div_coe (by norm_num), ← EReal.coe_mul, Ideal.cos_coe, Ideal.div_coe (by norm_num),
    show (if ((k.val : ℝ) : EReal) = 0 then (1 : EReal) else ((2 : ℝ) : EReal)) = (((if k.val = 0 then 1 else 2 : ℝ)) : EReal) by
      by_cases h : k.val = 0 <;> simp [h],
    ← EReal.coe_mul, Ideal.sqrt_coe, if_neg (not_lt.mpr (by split <;> norm_num)), ← EReal.coe_mul, dct]
  simp only [div_eq_mul_inv, one_mul]

/-- The mean of a column. -/
def meanOf (x : Fin 336 → EReal) : EReal := (∑ l : Fin 336, x l) * ((1 / 336 : ℝ) : EReal)

/-- An entry of the reference's result, from its column of the input and its channel's weights and biases. -/
def referenceLane (x : Fin 336 → EReal) (w1 : Fin 56 → Fin 16 → EReal) (b1 : Fin 16 → EReal) (w2 : Fin 16 → Fin 56 → EReal)
    (b2 : Fin 56 → EReal) (l : Fin 336) : EReal :=
  (∑ k : Fin 6, ((∑ g : Fin 16, w2 g (segOf l) * ((∑ s : Fin 56, w1 s g * ∑ n : Fin 6, (x (seg s n) - meanOf x) * ((dct k n : ℝ) : EReal)) + b1 g))
      + b2 (segOf l)) * ((dct k (phase l) : ℝ) : EReal)) + meanOf x

theorem columnMean_eq (x : FVec Ideal S256x336x862 .f32) (b : Fin 256) (ch : Fin 862) :
    (columnMean x (ix3 b (0 : Fin 1) ch) : EReal) = meanOf fun l => x (ix3 b l ch) := by
  rw [columnMean_apply, Ideal.div_coe (by norm_num)]
  rfl

/-- The reference's result entry in terms of the arguments. -/
theorem reference_entry (m : (ℓ : Loc nD τ sig) → Buf (Elt Ideal) ℓ) (c : Dev nD) (b : Fin 256) (l : Fin 336) (ch : Fin 862) :
    (res_main_v48 m c (ix3 b l ch) : EReal) = referenceLane (fun l => m ((c.tc : Thread nD τ).loc main_arg0) (ix3 b l ch))
      (fun s k => m ((c.tc : Thread nD τ).loc main_arg1) (ix3 ch s k)) (fun k => m ((c.tc : Thread nD τ).loc main_arg2) (ix2 ch k))
      (fun k s => m ((c.tc : Thread nD τ).loc main_arg3) (ix3 ch k s)) (fun s => m ((c.tc : Thread nD τ).loc main_arg4) (ix2 ch s)) l := by
  rw [result_stages, restored_apply]
  simp only [layerTwo_apply, layerOne_apply, frequencies_apply, dctMatrix_apply, columnMean_eq]
  rfl

end Cert.ReferenceIdeal.Hand

end
-- ==== Proof.TripFns.lean ====
/- What one trip of the kernel's loop over batch rows computes, written once as functions of the vectors it loads:
   the bands of 24 rows added up, the hidden rows of the two halves, their sum over the four rows of one phase, and
   the fold over the hidden units. `trip_pieces` says that the trip stores exactly these. -/
module

public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The seven bands of 24 rows of a half, added up as the kernel pairs them. -/
def bands (v : FVec F S168x128 .f32) : FVec F S24x128 .f32 :=
  addf
    (addf
      (addf (extractStridedSlice S24x128 ![0, 0] v slices_S168x128_o0_0_S24x128)
        (extractStridedSlice S24x128 ![24, 0] v slices_S168x128_o24_0_S24x128))
      (addf (extractStridedSlice S24x128 ![48, 0] v slices_S168x128_o48_0_S24x128)
        (extractStridedSlice S24x128 ![72, 0] v slices_S168x128_o72_0_S24x128)))
    (addf
      (addf (extractStridedSlice S24x128 ![96, 0] v slices_S168x128_o96_0_S24x128)
        (extractStridedSlice S24x128 ![120, 0] v slices_S168x128_o120_0_S24x128))
      (extractStridedSlice S24x128 ![144, 0] v slices_S168x128_o144_0_S24x128))

/-- Half a row of the input less the row's mean. -/
def centred (mean : FVec F S1x128 .f32) (x : Vec F S1x168x128 .f32) : FVec F S168x128 .f32 :=
  subf (shapeCast S168x128 x shapeCasts_S1x168x128_S168x128) (broadcastTo S168x128 mean broadcasts_S1x128_S168x128)

/-- One hidden unit before its phases are added: the two centred halves times the unit's weights, bands added. -/
def hidden (mean : FVec F S1x128 .f32) (x0 x1 w0 w1 : Vec F S1x168x128 .f32) : FVec F S24x128 .f32 :=
  addf (bands (mulf (centred mean x0) (shapeCast S168x128 w0 shapeCasts_S1x168x128_S168x128)))
    (bands (mulf (centred mean x1) (shapeCast S168x128 w1 shapeCasts_S1x168x128_S168x128)))

/-- A vector of 24 rows plus itself turned by twelve rows. -/
def turn12 (u : FVec F S24x128 .f32) : FVec F S24x128 .f32 :=
  addf u (concatenate S24x128 0 [⟨S12x128, extractStridedSlice S12x128 ![12, 0] u slices_S24x128_o12_0_S12x128⟩,
    ⟨S12x128, extractStridedSlice S12x128 ![0, 0] u slices_S24x128_o0_0_S12x128⟩] concatenates_S12x128_S12x128_S24x128_d0)

/-- A vector of 24 rows plus itself turned by six rows. -/
def turn6 (u : FVec F S24x128 .f32) : FVec F S24x128 .f32 :=
  addf u (concatenate S24x128 0 [⟨S18x128, extractStridedSlice S18x128 ![6, 0] u slices_S24x128_o6_0_S18x128⟩,
    ⟨S6x128, extractStridedSlice S6x128 ![0, 0] u slices_S24x128_o0_0_S6x128⟩] concatenates_S18x128_S6x128_S24x128_d0)

/-- 24 rows repeated seven times: half a row of the output. -/
def tiled (u : FVec F S24x128 .f32) : FVec F S168x128 .f32 :=
  concatenate S168x128 0 [⟨S24x128, u⟩, ⟨S24x128, u⟩, ⟨S24x128, u⟩, ⟨S24x128, u⟩, ⟨S24x128, u⟩, ⟨S24x128, u⟩, ⟨S24x128, u⟩]
    concatenates_S24x128_S24x128_S24x128_S24x128_S24x128_S24x128_S24x128_S168x128_d0

/-- Sixteen vectors added to a first one, from the left. -/
def fold16 {s : Shape} (a : FVec F s .f32) (g : Fin 16 → FVec F s .f32) : FVec F s .f32 :=
  addf (addf (addf (addf (addf (addf (addf (addf (addf (addf (addf (addf (addf (addf (addf (addf a
    (g 0)) (g 1)) (g 2)) (g 3)) (g 4)) (g 5)) (g 6)) (g 7)) (g 8)) (g 9)) (g 10)) (g 11)) (g 12)) (g 13)) (g 14)) (g 15)

/-- Half a row of the output: the bias rows and the mean, and every hidden unit's rows times its output weights. -/
def outHalf (mean : FVec F S1x128 .f32) (bias : Vec F S168x128 .f32) (hp : Fin 16 → FVec F S24x128 .f32)
    (w : Fin 16 → Vec F S1x168x128 .f32) : FVec F S168x128 .f32 :=
  fold16 (addf bias (broadcastTo S168x128 mean broadcasts_S1x128_S168x128))
    fun h => mulf (tiled (hp h)) (shapeCast S168x128 (w h) shapeCasts_S1x168x128_S168x128)

/-- Half a plane of weights lies inside the block of sixteen. -/
theorem half_inb (o : ℕ) (ho : o ≤ 168) (h : Fin 16) : ∀ a, (![h.val, o, 0] : Fin 3 → ℕ) a + S1x168x128.size a ≤ S16x336x128.size a := by
  intro a
  have := h.isLt
  match a with
  | ⟨0, _⟩ => show h.val + 1 ≤ 16; omega
  | ⟨1, _⟩ => show o + 168 ≤ 336; omega
  | ⟨2, _⟩ => show 0 + 128 ≤ 128; omega

/-- Unit `h`'s weights for the half that begins at row `o`. -/
def wRow (arg : Memref sig .tc .vmem S16x336x128 .f32) (X : BufTy.Contents (Elt F) arg.view.ty) (o : ℕ) (ho : o ≤ 168) (h : Fin 16) :
    Vec F S1x168x128 .f32 :=
  View.readAt (Elt F) arg.view (Rect.unit (s := S16x336x128) ![h.val, o, 0] S1x168x128.size (half_inb o ho h)).toLoadRect X

/-- The mean of batch row `k` of the tile. -/
def rowMean (arg2 : Memref sig .tc .vmem S16x336x128 .f32) (X : BufTy.Contents (Elt F) arg2.view.ty) (k : Fin k0_t1_loop.trips) : FVec F S1x128 .f32 :=
  k0_pay12 (View.readAt (Elt F) arg2.view (Rect.unit (s := S16x336x128) (k0_off1 k) S1x336x128.size (k0_off1_inb k)).toLoadRect X)

/-- Hidden unit `h` of batch row `k`, its four rows of one phase added. -/
def hiddenRow (arg2 : Memref sig .tc .vmem S16x336x128 .f32) (arg3 : Memref sig .tc .vmem S16x336x128 .f32)
    (X2 : BufTy.Contents (Elt F) arg2.view.ty) (X3 : BufTy.Contents (Elt F) arg3.view.ty) (k : Fin k0_t1_loop.trips) (h : Fin 16) : FVec F S24x128 .f32 :=
  turn6 (turn12 (hidden (rowMean arg2 X2 k)
    (View.readAt (Elt F) arg2.view (Rect.unit (s := S16x336x128) (k0_off2 k) S1x168x128.size (k0_off2_inb k)).toLoadRect X2)
    (View.readAt (Elt F) arg2.view (Rect.unit (s := S16x336x128) (k0_off3 k) S1x168x128.size (k0_off3_inb k)).toLoadRect X2)
    (wRow arg3 X3 0 (by decide) h) (wRow arg3 X3 168 (by decide) h)))

set_option maxHeartbeats 2000000 in
/-- The trip for batch row `k` stores the two halves of the output row, and nothing else. -/
theorem trip_pieces (𝒱 : Variants) (c : Dev nD) (bd : Option 𝒱.V) (i : grid0.Coords) (arg2 : Memref sig .tc .vmem S16x336x128 .f32) (harg2 : arg2.IsWhole)
    (arg3 : Memref sig .tc .vmem S16x336x128 .f32) (harg3 : arg3.IsWhole) (arg4 : Memref sig .tc .vmem S16x128 .f32) (harg4 : arg4.IsWhole)
    (arg5 : Memref sig .tc .vmem S16x336x128 .f32) (harg5 : arg5.IsWhole) (arg6 : Memref sig .tc .vmem S336x128 .f32) (harg6 : arg6.IsWhole)
    (arg7 : Memref sig .tc .vmem S16x336x128 .f32) (harg7 : arg7.IsWhole) (arg8 : Memref sig .tc .vmem S336x128 .f32) (harg8 : arg8.IsWhole)
    (X2 : BufTy.Contents (Elt F) arg2.view.ty) (X3 : BufTy.Contents (Elt F) arg3.view.ty) (X5 : BufTy.Contents (Elt F) arg5.view.ty)
    (X8 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 X2 X3 X5 X8 k
      = [⟨Rect.unit (s := S16x336x128) (k0_off3 k) S1x168x128.size (k0_off3_inb k),
          shapeCast S1x168x128 (outHalf (rowMean arg2 X2 k)
            (View.readAt (Elt F) arg8.view (Rect.unit (s := S336x128) ![168, 0] S168x128.size inb_S336x128_S168x128_168_0).toLoadRect X8)
            (hiddenRow arg2 arg3 X2 X3 k) (wRow arg5 X5 168 (by decide))) shapeCasts_S168x128_S1x168x128⟩,
        ⟨Rect.unit (s := S16x336x128) (k0_off2 k) S1x168x128.size (k0_off2_inb k),
          shapeCast S1x168x128 (outHalf (rowMean arg2 X2 k)
            (View.readAt (Elt F) arg8.view (Rect.unit (s := S336x128) ![0, 0] S168x128.size inb_S336x128_S168x128_0_0).toLoadRect X8)
            (hiddenRow arg2 arg3 X2 X3 k) (wRow arg5 X5 0 (by decide))) shapeCasts_S168x128_S1x168x128⟩] := by
  unfold tripL_k0_t1 trip_k0_t1
  rfl

end Cert.KernelIdeal.Hand

end
-- ==== Proof.TripLane.lean ====
/- The functions of one trip, read at one row and one lane over the extended reals: each is a plain sum. -/
module

public import proofs.«01_k».proof.Proof.TripFns
public import proofs.«01_k».proof.Proof.PhaseSum
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.Ideal
open Cert.Proof (seg phase)

/-- The bands added up: row `r` of every band. -/
theorem bands_apply (v : FVec Ideal S168x128 .f32) (r : Fin 24) (c : Fin 128) :
    (bands v (ix2 r c) : EReal) = ∑ g : Fin 7, v (ix2 ⟨24 * g.val + r.val, by omega⟩ c) := by
  pointwise [bands]
  simp only [Fin.sum_univ_seven, Fin.val_ofNat]
  norm_num
  simp only [add_assoc]

/-- A centred half: the entry less the mean. -/
theorem centred_apply (mean : FVec Ideal S1x128 .f32) (x : Vec Ideal S1x168x128 .f32) (l : Fin 168) (c : Fin 128) :
    (centred mean x (ix2 l c) : EReal) = x (ix3 0 l c) - mean (ix2 0 c) := by
  pointwise [centred]

/-- A hidden unit before its phases are added: the banded sums of the two halves. -/
theorem hidden_apply (mean : FVec Ideal S1x128 .f32) (x0 x1 w0 w1 : Vec Ideal S1x168x128 .f32) (r : Fin 24) (c : Fin 128) :
    (hidden mean x0 x1 w0 w1 (ix2 r c) : EReal) = (∑ g : Fin 7, (x0 (ix3 0 ⟨24 * g.val + r.val, by omega⟩ c) - mean (ix2 0 c)) * w0 (ix3 0 ⟨24 * g.val + r.val, by omega⟩ c))
      + ∑ g : Fin 7, (x1 (ix3 0 ⟨24 * g.val + r.val, by omega⟩ c) - mean (ix2 0 c)) * w1 (ix3 0 ⟨24 * g.val + r.val, by omega⟩ c) := by
  pointwise [hidden, bands_apply, centred_apply]

/-- A vector plus itself turned by twelve rows. -/
theorem turn12_apply (u : FVec Ideal S24x128 .f32) (r : Fin 24) (c : Fin 128) :
    (turn12 u (ix2 r c) : EReal) = u (ix2 r c) + u (ix2 ⟨(r.val + 12) % 24, by omega⟩ c) := by
  pointwise [turn12]
  congr 1
  split <;> exact congrArg (fun q => u (ix2 q c)) (Fin.ext (by simp only []; omega))

/-- A vector plus itself turned by six rows. -/
theorem turn6_apply (u : FVec Ideal S24x128 .f32) (r : Fin 24) (c : Fin 128) :
    (turn6 u (ix2 r c) : EReal) = u (ix2 r c) + u (ix2 ⟨(r.val + 6) % 24, by omega⟩ c) := by
  pointwise [turn6]
  congr 1
  split <;> exact congrArg (fun q => u (ix2 q c)) (Fin.ext (by simp only []; omega))

/-- 24 rows repeated: row `l` is row `l mod 24`. -/
theorem tiled_apply (u : FVec Ideal S24x128 .f32) (l : Fin 168) (c : Fin 128) :
    (tiled u (ix2 l c) : EReal) = u (ix2 ⟨l.val % 24, by omega⟩ c) := by
  pointwise [tiled]
  repeat' split
  all_goals exact congrArg (fun q => u (ix2 q c)) (Fin.ext (by simp only []; omega))

/-- The fold from the left is the first vector plus the sum. -/
theorem fold16_apply {s : Shape} (a : FVec Ideal s .f32) (g : Fin 16 → FVec Ideal s .f32) (j : s.Idx) :
    (fold16 a g j : EReal) = a j + ∑ h, (g h j : EReal) := by
  simp only [fold16, addf, Ideal.addf_def, Fin.sum_univ_succ, Fin.sum_univ_zero, add_zero, add_assoc]
  rfl

/-- Half a row of the output at one row and lane. -/
theorem outHalf_apply (mean : FVec Ideal S1x128 .f32) (bias : Vec Ideal S168x128 .f32) (hp : Fin 16 → FVec Ideal S24x128 .f32)
    (w : Fin 16 → Vec Ideal S1x168x128 .f32) (l : Fin 168) (c : Fin 128) :
    (outHalf mean bias hp w (ix2 l c) : EReal)
      = (bias (ix2 l c) + mean (ix2 0 c)) + ∑ h, (hp h (ix2 ⟨l.val % 24, by omega⟩ c) : EReal) * w h (ix3 0 l c) := by
  rw [outHalf, fold16_apply]
  pointwise [tiled_apply]

/-- A hidden unit with its four rows of each phase added, of one column `x` less its mean `m` and one column `w` of
    weights: the sum over the segments at the row's phase. -/
theorem folded_apply (mean : FVec Ideal S1x128 .f32) (x0 x1 w0 w1 : Vec Ideal S1x168x128 .f32) (x w : Fin 336 → EReal) (m : EReal) (c : Fin 128)
    (hm : (mean (ix2 0 c) : EReal) = m)
    (hx0 : ∀ l : Fin 168, (x0 (ix3 0 l c) : EReal) = x ⟨l.val, by omega⟩) (hx1 : ∀ l : Fin 168, (x1 (ix3 0 l c) : EReal) = x ⟨168 + l.val, by omega⟩)
    (hw0 : ∀ l : Fin 168, (w0 (ix3 0 l c) : EReal) = w ⟨l.val, by omega⟩) (hw1 : ∀ l : Fin 168, (w1 (ix3 0 l c) : EReal) = w ⟨168 + l.val, by omega⟩)
    (r : Fin 24) :
    (turn6 (turn12 (hidden mean x0 x1 w0 w1)) (ix2 r c) : EReal) = ∑ s, (x (seg s (phase r)) - m) * w (seg s (phase r)) := by
  rw [turn6_apply, turn12_apply, turn12_apply]
  refine Cert.Proof.turned_bands (fun l => (x l - m) * w l) (fun r => hidden mean x0 x1 w0 w1 (ix2 r c)) (fun r => ?_) r
  rw [hidden_apply]
  simp only [hm, hx0, hx1, hw0, hw1]

/-- The reciprocal of the row length, the constant the mean is multiplied by. -/
theorem inv_len : Named.named (F := Ideal) κ "inv_len" (φ := .f32) 0x3B430C31#32 = ((1 / 336 : ℝ) : EReal) :=
  IdealRules.named_const.ideal_named_scalar _ _ _ _ rfl

/-- The mean of a row: the sum of its 336 entries times the reciprocal of the length. -/
theorem mean_apply (x : Vec Ideal S1x336x128 .f32) (c : Fin 128) :
    (k0_pay12 x (ix2 0 c) : EReal) = (∑ l : Fin 336, (x (ix3 0 l c) : EReal)) * ((1 / 336 : ℝ) : EReal) := by
  rw [← Cert.Proof.sum_bands]
  pointwise [k0_pay12, inv_len]
  congr 1
  refine Finset.sum_congr rfl fun r _ => ?_
  rw [← Cert.Proof.bands_add (fun l => (x (ix3 0 l c) : EReal)) r]
  simp only [Fin.sum_univ_seven, Fin.val_ofNat]
  have e : ∀ a b : ℕ, a + (b + r.val) = a + b + r.val := fun a b => (Nat.add_assoc a b _).symm
  simp only [e]
  norm_num
  simp only [add_assoc (G := EReal)]

end Cert.KernelIdeal.Hand

end
-- ==== Proof.BiasLane.lean ====
/- What the first point of a channel block stores in the scratch: the output bias rows with the hidden biases carried
   through the output weights, each row times the sum of its phase's cosine column. -/
module

public import proofs.«01_k».proof.Proof.TripLane

@[expose] public section

set_option maxRecDepth 16384

noncomputable section

namespace Cert.KernelIdeal.Hand

open Cert.KernelIdeal Cert.KernelIdeal.Gen
open Idealize.ShloMosaic
open Cert.Proof (phase)

variable {F : FTy → Type} [FloatOps F] [Named F]

/-- The scratch's contents from the output bias rows, the hidden biases and the output weights. -/
def stored (b2 : Vec F S336x128 .f32) (b1 : Fin 16 → Vec F S1x128 .f32) (w : Fin 16 → Vec F S1x336x128 .f32) : FVec F S336x128 .f32 :=
  k0_pay1 (fold16 (shapeCast S336x128 b2 shapeCasts_S336x128_S336x128) fun h =>
    mulf (broadcastTo S336x128 (shapeCast S1x128 (b1 h) shapeCasts_S1x128_S1x128) broadcasts_S1x128_S336x128)
      (shapeCast S336x128 (w h) shapeCasts_S1x336x128_S336x128)) k0_pay10 k0_pay11 2#32

/-- The six sums the kernel multiplies the bias rows by, as real numbers. -/
def tsum (n : Fin 6) : ℝ :=
  ![1 / 2 + (√2)⁻¹ + (2 * √3)⁻¹ + 2 * (√6)⁻¹, 0 - (√3)⁻¹, (√2)⁻¹ + (2 * √3)⁻¹ - 1 / 2,
    (2 * √3)⁻¹ + 2 * (√6)⁻¹ - 1 / 2 - (√2)⁻¹, 2 * (√6)⁻¹ - (√3)⁻¹, 1 / 2 + (2 * √3)⁻¹ - (√2)⁻¹] n

theorem r2h : Named.named (F := Ideal) κ "r2h" (φ := .f32) 0x3F3504F3#32 = (((√2)⁻¹ : ℝ) : EReal) :=
  IdealRules.named_const.ideal_named_scalar _ _ _ _ rfl
theorem r3s : Named.named (F := Ideal) κ "r3s" (φ := .f32) 0x3E93CD3A#32 = (((2 * √3)⁻¹ : ℝ) : EReal) :=
  IdealRules.named_const.ideal_named_scalar _ _ _ _ rfl
theorem r3t : Named.named (F := Ideal) κ "r3t" (φ := .f32) 0x3F13CD3A#32 = (((√3)⁻¹ : ℝ) : EReal) :=
  IdealRules.named_const.ideal_named_scalar _ _ _ _ rfl
theorem r6t : Named.named (F := Ideal) κ "r6t" (φ := .f32) 0x3F5105EC#32 = ((2 * (√6)⁻¹ : ℝ) : EReal) :=
  IdealRules.named_const.ideal_named_scalar _ _ _ _ rfl

theorem half_bits : Ideal.ofBits .f32 0x3F000000#32 = ((1 / 2 : ℝ) : EReal) := by
  simp [Ideal.ofBits, Ideal.ieee, -EReal.coe_mul]; norm_num
theorem zero_bits : Ideal.ofBits .f32 0x00000000#32 = ((0 : ℝ) : EReal) := by
  simp [Ideal.ofBits, Ideal.ieee, -EReal.coe_mul]

/-- The row numbers taken modulo six are the phases. -/
theorem pay10_apply (r : Fin 24) (c : Fin 128) : k0_pay10 (ix2 r c) = BitVec.ofNat 32 (phase r).val := by
  pointwise [k0_pay10]
  revert r
  decide

/-- 24 rows repeated fourteen times: row `l` is row `l mod 24`. -/
theorem tiled14_apply (u : FVec Ideal S24x128 .f32) (l : Fin 336) (c : Fin 128) :
    concatenate S336x128 0 [⟨S24x128, u⟩, ⟨S24x128, u⟩, ⟨S24x128, u⟩, ⟨S24x128, u⟩, ⟨S24x128, u⟩, ⟨S24x128, u⟩, ⟨S24x128, u⟩, ⟨S24x128, u⟩,
        ⟨S24x128, u⟩, ⟨S24x128, u⟩, ⟨S24x128, u⟩, ⟨S24x128, u⟩, ⟨S24x128, u⟩, ⟨S24x128, u⟩]
      concatenates_S24x128_S24x128_S24x128_S24x128_S24x128_S24x128_S24x128_S24x128_S24x128_S24x128_S24x128_S24x128_S24x128_S24x128_S336x128_d0 (ix2 l c)
      = u (ix2 ⟨l.val % 24, by omega⟩ c) := by
  refine concatenate_replicate_apply (s₁ := S24x128) (t := S336x128) 0 14 u _ rfl (ix2 l c) (ix2 ⟨l.val % 24, by omega⟩ c) rfl fun b hb => ?_
  match b with
  | ⟨0, _⟩ => exact absurd rfl hb
  | ⟨1, _⟩ => rfl

/-- The stored rows: the sum before it times the phase's cosine sum. -/
theorem pay1_apply (v : FVec Ideal S336x128 .f32) (l : Fin 336) (c : Fin 128) :
    (k0_pay1 v k0_pay10 k0_pay11 2#32 (ix2 l c) : EReal) = v (ix2 l c) * ((tsum (phase l) : ℝ) : EReal) := by
  have hp : phase (⟨l.val % 24, by omega⟩ : Fin 24) = phase l := Fin.ext (by show l.val % 24 % 6 = l.val % 6; omega)
  pointwise [k0_pay1, k0_pay11, tiled14_apply, pay10_apply, r2h, r3s, r3t, r6t, half_bits, zero_bits, hp]
  congr 1
  generalize phase l = n
  simp only [← EReal.coe_add, ← EReal.coe_sub]
  fin_cases n <;> rfl

/-- The scratch at one row and lane: the bias row and the hidden biases through the output weights, times the phase's sum. -/
theorem stored_apply (b2 : Vec Ideal S336x128 .f32) (b1 : Fin 16 → Vec Ideal S1x128 .f32) (w : Fin 16 → Vec Ideal S1x336x128 .f32)
    (l : Fin 336) (c : Fin 128) :
    (stored b2 b1 w (ix2 l c) : EReal)
      = (b2 (ix2 l c) + ∑ h, (b1 h (ix2 0 c) : EReal) * w h (ix3 0 l c)) * ((tsum (phase l) : ℝ) : EReal) := by
  rw [stored, pay1_apply, fold16_apply]
  pointwise

end Cert.KernelIdeal.Hand

end
-- ==== Proof.CosineTable.lean ====
/- The cosine transform's matrix of order six in radicals: it is orthogonal, and the sum of each of its columns is the
   number the kernel multiplies the bias rows of that phase by. -/
module

public import proofs.«01_k».proof.Proof.ReferenceValue
public import proofs.«01_k».proof.Proof.BiasLane

@[expose] public section

noncomputable section

namespace Cert.Proof

open Cert.ReferenceIdeal.Hand (dct)

/-- The square roots of 2, 3 and 6 multiply as they should. -/
theorem root_two_sq : √(2 : ℝ) * √2 = 2 := Real.mul_self_sqrt (by norm_num)
theorem root_three_sq : √(3 : ℝ) * √3 = 3 := Real.mul_self_sqrt (by norm_num)
theorem root_six_sq : √(6 : ℝ) * √6 = 6 := Real.mul_self_sqrt (by norm_num)
theorem root_two_three : √(2 : ℝ) * √3 = √6 := by rw [← Real.sqrt_mul (by norm_num)]; norm_num
theorem root_two_six : √(2 : ℝ) * √6 = 2 * √3 := by rw [← root_two_three, ← mul_assoc, root_two_sq]
theorem root_three_six : √(3 : ℝ) * √6 = 3 * √2 := by
  rw [← root_two_three, mul_comm √(2 : ℝ), ← mul_assoc, root_three_sq]

/-- The cosines of the first twelve multiples of a twelfth of π, in radicals. -/
def twelfths : Fin 12 → ℝ :=
  ![1, (√6 + √2) / 4, √3 / 2, √2 / 2, 1 / 2, (√6 - √2) / 4, 0, -((√6 - √2) / 4), -(1 / 2), -(√2 / 2), -(√3 / 2), -((√6 + √2) / 4)]

theorem cos_one_twelfth : Real.cos (Real.pi / 12) = (√6 + √2) / 4 := by
  rw [show Real.pi / 12 = Real.pi / 3 - Real.pi / 4 by ring, Real.cos_sub, Real.cos_pi_div_three, Real.cos_pi_div_four,
    Real.sin_pi_div_three, Real.sin_pi_div_four, ← root_two_three]
  ring

theorem cos_five_twelfths : Real.cos (5 * (Real.pi / 12)) = (√6 - √2) / 4 := by
  rw [show 5 * (Real.pi / 12) = Real.pi / 6 + Real.pi / 4 by ring, Real.cos_add, Real.cos_pi_div_six, Real.cos_pi_div_four,
    Real.sin_pi_div_six, Real.sin_pi_div_four, ← root_two_three]
  ring

/-- The cosine of a multiple below twelve of a twelfth of π. -/
theorem cos_twelfths (r : Fin 12) : Real.cos ((r.val : ℝ) * (Real.pi / 12)) = twelfths r := by
  have mirror : ∀ t : ℝ, Real.cos ((12 - t) * (Real.pi / 12)) = -Real.cos (t * (Real.pi / 12)) := fun t => by
    rw [show (12 - t) * (Real.pi / 12) = Real.pi - t * (Real.pi / 12) by ring, Real.cos_pi_sub]
  have e1 : Real.cos (1 * (Real.pi / 12)) = (√6 + √2) / 4 := by rw [one_mul]; exact cos_one_twelfth
  have e2 : Real.cos (2 * (Real.pi / 12)) = √3 / 2 := by
    rw [show 2 * (Real.pi / 12) = Real.pi / 6 by ring]; exact Real.cos_pi_div_six
  have e3 : Real.cos (3 * (Real.pi / 12)) = √2 / 2 := by
    rw [show 3 * (Real.pi / 12) = Real.pi / 4 by ring]; exact Real.cos_pi_div_four
  have e4 : Real.cos (4 * (Real.pi / 12)) = 1 / 2 := by
    rw [show 4 * (Real.pi / 12) = Real.pi / 3 by ring]; exact Real.cos_pi_div_three
  match r with
  | 0 => simp [twelfths]
  | 1 => simpa [twelfths] using e1
  | 2 => simpa [twelfths] using e2
  | 3 => simpa [twelfths] using e3
  | 4 => simpa [twelfths] using e4
  | 5 => simpa [twelfths] using cos_five_twelfths
  | 6 =>
    show Real.cos (((6 : ℕ) : ℝ) * (Real.pi / 12)) = 0
    rw [show ((6 : ℕ) : ℝ) * (Real.pi / 12) = Real.pi / 2 by push_cast; ring]
    exact Real.cos_pi_div_two
  | 7 =>
    show Real.cos (((7 : ℕ) : ℝ) * (Real.pi / 12)) = -((√6 - √2) / 4)
    rw [← cos_five_twelfths, ← mirror]; norm_num
  | 8 =>
    show Real.cos (((8 : ℕ) : ℝ) * (Real.pi / 12)) = -(1 / 2)
    rw [← e4, ← mirror]; norm_num
  | 9 =>
    show Real.cos (((9 : ℕ) : ℝ) * (Real.pi / 12)) = -(√2 / 2)
    rw [← e3, ← mirror]; norm_num
  | 10 =>
    show Real.cos (((10 : ℕ) : ℝ) * (Real.pi / 12)) = -(√3 / 2)
    rw [← e2, ← mirror]; norm_num
  | 11 =>
    show Real.cos (((11 : ℕ) : ℝ) * (Real.pi / 12)) = -((√6 + √2) / 4)
    rw [← e1, ← mirror]; norm_num

/-- The cosine of any multiple of a twelfth of π: half a turn changes the sign. -/
theorem cos_multiple (j : ℕ) : Real.cos ((j : ℝ) * (Real.pi / 12)) = (-1) ^ (j / 12) * twelfths ⟨j % 12, Nat.mod_lt _ (by norm_num)⟩ := by
  have h : (j : ℝ) = (((j % 12 : ℕ) : ℝ)) + ((j / 12 : ℕ) : ℝ) * 12 := by
    exact_mod_cast (Nat.mod_add_div' j 12).symm
  rw [← cos_twelfths, ← Real.cos_add_nat_mul_pi]
  congr 1
  show (j : ℝ) * (Real.pi / 12) = ((j % 12 : ℕ) : ℝ) * (Real.pi / 12) + ((j / 12 : ℕ) : ℝ) * Real.pi
  linear_combination (Real.pi / 12) * h

/-- The transform's matrix in radicals. -/
def table : Fin 6 → Fin 6 → ℝ :=
  ![![√6 / 6, √6 / 6, √6 / 6, √6 / 6, √6 / 6, √6 / 6],
    ![(3 * √2 + √6) / 12, √6 / 6, (3 * √2 - √6) / 12, -((3 * √2 - √6) / 12), -(√6 / 6), -((3 * √2 + √6) / 12)],
    ![1 / 2, 0, -(1 / 2), -(1 / 2), 0, 1 / 2],
    ![√6 / 6, -(√6 / 6), -(√6 / 6), √6 / 6, √6 / 6, -(√6 / 6)],
    ![√3 / 6, -(√3 / 3), √3 / 6, √3 / 6, -(√3 / 3), √3 / 6],
    ![(3 * √2 - √6) / 12, -(√6 / 6), (3 * √2 + √6) / 12, -((3 * √2 + √6) / 12), √6 / 6, -((3 * √2 - √6) / 12)]]

theorem scale_zero : Real.sqrt (1 / 6) = √2 * √3 / 6 := by
  rw [root_two_three, Real.sqrt_eq_iff_mul_self_eq (by norm_num) (by positivity)]
  linear_combination -(1 / 36 : ℝ) * root_six_sq

theorem scale_other : Real.sqrt (2 / 6) = √3 / 3 := by
  rw [Real.sqrt_eq_iff_mul_self_eq (by norm_num) (by positivity)]
  linear_combination -(1 / 9 : ℝ) * root_three_sq

/-- An entry is a cosine of a multiple of a twelfth of π, scaled by its row's norm. -/
theorem dct_multiple (k n : Fin 6) :
    dct k n = ((-1) ^ (k.val * (2 * n.val + 1) / 12) * twelfths ⟨k.val * (2 * n.val + 1) % 12, Nat.mod_lt _ (by norm_num)⟩)
      * (if k.val = 0 then √2 * √3 / 6 else √3 / 3) := by
  rw [← cos_multiple, dct, ← scale_zero, ← scale_other]
  congr 2
  · push_cast
    ring
  · split_ifs <;> rfl

/-- Every entry of the transform's matrix is the table's. -/
theorem dct_table (k n : Fin 6) : dct k n = table k n := by
  have h3 := root_three_sq
  rw [dct_multiple]
  fin_cases k <;> fin_cases n <;> simp [twelfths, table, ← root_two_three] <;>
    first
      | ring1
      | linear_combination (√2 / 12) * h3
      | linear_combination -(√2 / 12) * h3
      | linear_combination (1 / 6 : ℝ) * h3

/-- Two columns of the matrix are orthogonal, and each has length one. -/
theorem dct_orthogonal (n m : Fin 6) : ∑ k, dct k n * dct k m = if n = m then 1 else 0 := by
  simp only [dct_table, Fin.sum_univ_six]
  fin_cases n <;> fin_cases m <;> simp [table] <;> ring_nf <;> norm_num [Real.sq_sqrt]

/-- The sum of a column is the kernel's number of that phase. -/
theorem dct_column_sum (n : Fin 6) : ∑ k, dct k n = KernelIdeal.Hand.tsum n := by
  have i2 : (√2 : ℝ)⁻¹ = √2 / 2 := by rw [inv_eq_iff_eq_inv, inv_div, eq_div_iff (by positivity)]; exact root_two_sq
  have i3 : (√3 : ℝ)⁻¹ = √3 / 3 := by rw [inv_eq_iff_eq_inv, inv_div, eq_div_iff (by positivity)]; exact root_three_sq
  have i6 : (√6 : ℝ)⁻¹ = √6 / 6 := by rw [inv_eq_iff_eq_inv, inv_div, eq_div_iff (by positivity)]; exact root_six_sq
  simp only [dct_table, Fin.sum_univ_six]
  fin_cases n <;> simp [table, KernelIdeal.Hand.tsum, mul_inv, i2, i3, i6] <;> ring1

end Cert.Proof

end
-- ==== Proof.OutBlock.lean ====
/- The block of the output one grid point leaves: entry by entry the same function of its lane's column of the input,
   the two weights and the scratch, whatever the buffer held before. -/
module

public import proofs.«01_k».proof.Proof.BiasLane
public import Idealize.ShloMosaic.Lib.WritesUnit
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe
open Cert.Proof (seg phase)

/-- The mean of a column of 336 entries. -/
def meanLane (x : Fin 336 → EReal) : EReal := (∑ l, x l) * ((1 / 336 : ℝ) : EReal)

/-- An entry of the output from its lane's column `x`, the weights of the lane and the scratch of the lane. -/
def outLane (x : Fin 336 → EReal) (w1 w2 : Fin 16 → Fin 336 → EReal) (s : Fin 336 → EReal) (l : Fin 336) : EReal :=
  (s l + meanLane x) + ∑ h, (∑ g, (x (seg g (phase l)) - meanLane x) * w1 h (seg g (phase l))) * w2 h l

/-- An entry of the scratch from the bias rows, the hidden biases and the output weights of its lane. -/
def biasLane (b2 : Fin 336 → EReal) (b1 : Fin 16 → EReal) (w2 : Fin 16 → Fin 336 → EReal) (l : Fin 336) : EReal :=
  (b2 l + ∑ h, b1 h * w2 h l) * ((tsum (phase l) : ℝ) : EReal)

theorem trips_eq : k0_t1_loop.trips = 16 := by decide

/-- The batch row of a trip. -/
def rowOf (k : Fin k0_t1_loop.trips) : Fin 16 := ⟨k.val, trips_eq ▸ k.isLt⟩

section
variable (arg2 : Memref sig .tc .vmem S16x336x128 .f32) (arg3 : Memref sig .tc .vmem S16x336x128 .f32)
  (arg5 : Memref sig .tc .vmem S16x336x128 .f32) (arg8 : Memref sig .tc .vmem S336x128 .f32)
  (X2 : BufTy.Contents (Elt Ideal) arg2.view.ty) (X3 : BufTy.Contents (Elt Ideal) arg3.view.ty)
  (X5 : BufTy.Contents (Elt Ideal) arg5.view.ty) (X8 : BufTy.Contents (Elt Ideal) arg8.view.ty)

/-- One unit's weights of a half, read at a row of the half. -/
theorem wRow_apply (arg : Memref sig .tc .vmem S16x336x128 .f32) (X : BufTy.Contents (Elt Ideal) arg.view.ty) (o : ℕ) (ho : o ≤ 168) (h : Fin 16)
    (l : Fin 168) (c : Fin 128) :
    wRow arg X o ho h (ix3 0 l c) = arg.view.read (Elt Ideal) X (ix3 h ⟨o + l.val, by omega⟩ c) :=
  View.ld_unit_apply_of (arg.view.read (Elt Ideal) X) _ _ _ _ _ fun a => match a with
    | ⟨0, _⟩ => rfl
    | ⟨1, _⟩ => rfl
    | ⟨2, _⟩ => (Nat.zero_add _).symm

/-- The mean a trip computes is the mean of its row's column. -/
theorem rowMean_apply (k : Fin k0_t1_loop.trips) (c : Fin 128) :
    (rowMean arg2 X2 k (ix2 0 c) : EReal) = meanLane fun l => arg2.view.read (Elt Ideal) X2 (ix3 (rowOf k) l c) := by
  rw [rowMean, mean_apply]
  unfold meanLane
  congr 1
  refine Finset.sum_congr rfl fun l _ => ?_
  refine View.ld_unit_apply_of (arg2.view.read (Elt Ideal) X2) _ _ _ _ _ fun a => ?_
  refine Eq.trans ?_ (congrArg (· + _) (congrFun (k0_off1_eq k) a).symm)
  match a with
  | ⟨0, _⟩ => rfl
  | ⟨1, _⟩ => exact (Nat.zero_add _).symm
  | ⟨2, _⟩ => exact (Nat.zero_add _).symm

/-- The hidden rows a trip computes, at a row and lane. -/
theorem hiddenRow_apply (k : Fin k0_t1_loop.trips) (h : Fin 16) (r : Fin 24) (c : Fin 128) :
    (hiddenRow arg2 arg3 X2 X3 k h (ix2 r c) : EReal)
      = ∑ g, (arg2.view.read (Elt Ideal) X2 (ix3 (rowOf k) (seg g (phase r)) c)
          - meanLane fun l => arg2.view.read (Elt Ideal) X2 (ix3 (rowOf k) l c)) * arg3.view.read (Elt Ideal) X3 (ix3 h (seg g (phase r)) c) := by
  unfold hiddenRow
  refine folded_apply _ _ _ _ _ (fun l => arg2.view.read (Elt Ideal) X2 (ix3 (rowOf k) l c))
    (fun l => arg3.view.read (Elt Ideal) X3 (ix3 h l c)) _ c (rowMean_apply arg2 X2 k c) (fun l => ?_) (fun l => ?_) (fun l => ?_)
    (fun l => wRow_apply arg3 X3 168 _ h l c) r
  · refine View.ld_unit_apply_of (arg2.view.read (Elt Ideal) X2) _ _ _ _ _ fun a => ?_
    refine Eq.trans ?_ (congrArg (· + _) (congrFun (k0_off2_eq k) a).symm)
    match a with
    | ⟨0, _⟩ => rfl
    | ⟨1, _⟩ => exact (Nat.zero_add _).symm
    | ⟨2, _⟩ => exact (Nat.zero_add _).symm
  · refine View.ld_unit_apply_of (arg2.view.read (Elt Ideal) X2) _ _ _ _ _ fun a => ?_
    refine Eq.trans ?_ (congrArg (· + _) (congrFun (k0_off3_eq k) a).symm)
    match a with
    | ⟨0, _⟩ => rfl
    | ⟨1, _⟩ => rfl
    | ⟨2, _⟩ => exact (Nat.zero_add _).symm
  · rw [wRow_apply]
    exact congrArg (fun q => arg3.view.read (Elt Ideal) X3 (ix3 h q c)) (Fin.ext (Nat.zero_add _))

/-- The half that begins at row `o` (a whole number of bands down), at one of its rows and a lane: the output entry. -/
theorem half_apply (k : Fin k0_t1_loop.trips) (o : ℕ) (ho : o ≤ 168) (hb : o % 24 = 0) (bias : Vec Ideal S168x128 .f32)
    (hbias : ∀ (l : Fin 168) (c : Fin 128), bias (ix2 l c) = arg8.view.read (Elt Ideal) X8 (ix2 ⟨o + l.val, by omega⟩ c))
    (l : Fin 168) (c : Fin 128) :
    (shapeCast S1x168x128 (outHalf (rowMean arg2 X2 k) bias (hiddenRow arg2 arg3 X2 X3 k) (wRow arg5 X5 o ho)) shapeCasts_S168x128_S1x168x128 (ix3 0 l c) : EReal)
      = outLane (fun l => arg2.view.read (Elt Ideal) X2 (ix3 (rowOf k) l c)) (fun h l => arg3.view.read (Elt Ideal) X3 (ix3 h l c))
          (fun h l => arg5.view.read (Elt Ideal) X5 (ix3 h l c)) (fun l => arg8.view.read (Elt Ideal) X8 (ix2 l c)) ⟨o + l.val, by omega⟩ := by
  have hp : phase (⟨l.val % 24, by omega⟩ : Fin 24) = phase (⟨o + l.val, by omega⟩ : Fin 336) :=
    Fin.ext (by show l.val % 24 % 6 = (o + l.val) % 6; omega)
  pointwise [outHalf_apply, hiddenRow_apply, rowMean_apply, wRow_apply, hbias, hp]
  rfl
end

end Cert.KernelIdeal.Hand

end
-- ==== Proof.OutWrites.lean ====
/- The stores of the sixteen trips read back: each batch row of the output block holds what its own trip stored. -/
module

public import proofs.«01_k».proof.Proof.OutBlock

@[expose] public section

set_option maxRecDepth 16384

noncomputable section

namespace Cert.KernelIdeal.Hand

open Cert.KernelIdeal Cert.KernelIdeal.Gen
open Idealize.ShloMosaic Idealize.ShloMosaic.TcCoe

variable (𝒱 : Variants) (c : Dev nD) (bd : Option 𝒱.V) (i : grid0.Coords) (arg2 : Memref sig .tc .vmem S16x336x128 .f32) (harg2 : arg2.IsWhole)
    (arg3 : Memref sig .tc .vmem S16x336x128 .f32) (harg3 : arg3.IsWhole) (arg4 : Memref sig .tc .vmem S16x128 .f32) (harg4 : arg4.IsWhole)
    (arg5 : Memref sig .tc .vmem S16x336x128 .f32) (harg5 : arg5.IsWhole) (arg6 : Memref sig .tc .vmem S336x128 .f32) (harg6 : arg6.IsWhole)
    (arg7 : Memref sig .tc .vmem S16x336x128 .f32) (harg7 : arg7.IsWhole) (arg8 : Memref sig .tc .vmem S336x128 .f32) (harg8 : arg8.IsWhole)
    (X2 : BufTy.Contents (Elt Ideal) arg2.view.ty) (X3 : BufTy.Contents (Elt Ideal) arg3.view.ty) (X5 : BufTy.Contents (Elt Ideal) arg5.view.ty)
    (X8 : BufTy.Contents (Elt Ideal) arg8.view.ty) (f : BufTy.Contents (Elt Ideal) arg7.view.ty)

/-- The output entry at a batch row, row and lane, from what the five buffers hold. -/
def outEntry (b : Fin 16) (l : Fin 336) (j : Fin 128) : EReal :=
  outLane (fun l => arg2.view.read (Elt Ideal) X2 (ix3 b l j)) (fun h l => arg3.view.read (Elt Ideal) X3 (ix3 h l j))
    (fun h l => arg5.view.read (Elt Ideal) X5 (ix3 h l j)) (fun l => arg8.view.read (Elt Ideal) X8 (ix2 l j)) l

/-- After the first `n` trips the first `n` batch rows of the output block hold their entries. -/
theorem rows_read (n : ℕ) (hn : n ≤ k0_t1_loop.trips) (b : Fin 16) (hb : b.val < n) (l : Fin 336) (j : Fin 128) :
    (arg7.view.read (Elt Ideal) (arg7.view.writes (Elt Ideal) f
      (pb_k0_t1 (F := Ideal) 𝒱 c bd i arg2 harg2 arg3 harg3 arg4 harg4 arg5 harg5 arg6 harg6 arg7 harg7 arg8 harg8 X2 X3 X5 X8 n)) (ix3 b l j) : EReal)
      = outEntry arg2 arg3 arg5 arg8 X2 X3 X5 X8 b l j := by
  induction n with
  | zero => exact absurd hb (Nat.not_lt_zero _)
  | succ n ih =>
    have hs := pb_k0_t1_succ (F := Ideal) 𝒱 c bd i arg2 harg2 arg3 harg3 arg4 harg4 arg5 harg5 arg6 harg6 arg7 harg7 arg8 harg8 X2 X3 X5 X8 ⟨n, hn⟩
    rw [show n + 1 = (⟨n, hn⟩ : Fin k0_t1_loop.trips).val + 1 from rfl, hs, trip_pieces, List.cons_append, List.cons_append, List.nil_append]
    by_cases hbn : b.val = n
    · have hrow : rowOf ⟨n, hn⟩ = b := Fin.ext hbn.symm
      by_cases hl : l.val < 168
      · rw [View.read_writes_cons_unit_of_not_mem arg7.view f (k0_off3_inb _) _ _ (ix3 b l j) (k0_off3_eq ⟨n, hn⟩) (1 : Fin 3) (.inl hl)]
        rw [View.read_writes_cons_unit_of_mem arg7.view f (k0_off2_inb _) _ _ (ix3 b l j) (ix3 0 ⟨l.val, hl⟩ j) (k0_off2_eq ⟨n, hn⟩) fun a => match a with
          | ⟨0, _⟩ => hbn
          | ⟨1, _⟩ => (Nat.zero_add _).symm
          | ⟨2, _⟩ => (Nat.zero_add _).symm]
        rw [half_apply arg2 arg3 arg5 arg8 X2 X3 X5 X8 ⟨n, hn⟩ 0 (by decide) rfl _ (fun l c => ?_) ⟨l.val, hl⟩ j, hrow]
        · exact congrArg _ (Fin.ext (Nat.zero_add _))
        · exact View.ld_unit_apply_of (arg8.view.read (Elt Ideal) X8) _ _ _ _ _ fun a => match a with
            | ⟨0, _⟩ => rfl
            | ⟨1, _⟩ => (Nat.zero_add _).symm
      · rw [View.read_writes_cons_unit_of_mem arg7.view f (k0_off3_inb _) _ _ (ix3 b l j) (ix3 0 ⟨l.val - 168, by omega⟩ j) (k0_off3_eq ⟨n, hn⟩) fun a => match a with
          | ⟨0, _⟩ => hbn
          | ⟨1, _⟩ => (by show l.val = 168 + (l.val - 168); omega)
          | ⟨2, _⟩ => (Nat.zero_add _).symm]
        rw [half_apply arg2 arg3 arg5 arg8 X2 X3 X5 X8 ⟨n, hn⟩ 168 (by decide) rfl _ (fun l c => ?_) ⟨l.val - 168, by omega⟩ j, hrow]
        · exact congrArg _ (Fin.ext (by show 168 + (l.val - 168) = l.val; omega))
        · exact View.ld_unit_apply_of (arg8.view.read (Elt Ideal) X8) _ _ _ _ _ fun a => match a with
            | ⟨0, _⟩ => rfl
            | ⟨1, _⟩ => (Nat.zero_add _).symm
    · have hlt : b.val < n := by omega
      rw [View.read_writes_cons_unit_of_not_mem arg7.view f (k0_off3_inb _) _ _ (ix3 b l j) (k0_off3_eq ⟨n, hn⟩) (0 : Fin 3) (.inl hlt),
        View.read_writes_cons_unit_of_not_mem arg7.view f (k0_off2_inb _) _ _ (ix3 b l j) (k0_off2_eq ⟨n, hn⟩) (0 : Fin 3) (.inl hlt)]
      exact ih (by omega) hlt

end Cert.KernelIdeal.Hand

end
-- ==== Proof.BodyValue.lean ====
/- The kernel body at one grid point, over the extended reals, with the values: the output block holds its entries of
   the input, the weights and the scratch, and the scratch is filled at the first point of a channel block and kept at
   every other. -/
module

public import proofs.«01_k».proof.Proof.OutWrites
public import proofs.«01_k».proof.Proof.KernelIdealRun
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The output block holds its entries of the input block, the two weights and the scratch. -/
def OutHolds (X2 : Vec Ideal S16x336x128 .f32) (X3 X5 : Vec Ideal S16x336x128 .f32) (S : Vec Ideal S336x128 .f32) (Y : Vec Ideal S16x336x128 .f32) : Prop :=
  ∀ (b : Fin 16) (l : Fin 336) (j : Fin 128), (Y (ix3 b l j) : EReal)
    = outLane (fun l => X2 (ix3 b l j)) (fun h l => X3 (ix3 h l j)) (fun h l => X5 (ix3 h l j)) (fun l => S (ix2 l j)) l

/-- The scratch holds its entries of the hidden biases, the output weights and the bias rows. -/
def BiasHolds (X4 : Vec Ideal S16x128 .f32) (X5 : Vec Ideal S16x336x128 .f32) (X6 : Vec Ideal S336x128 .f32) (S : Vec Ideal S336x128 .f32) : Prop :=
  ∀ (l : Fin 336) (j : Fin 128), (S (ix2 l j) : EReal)
    = biasLane (fun l => X6 (ix2 l j)) (fun h => X4 (ix2 h j)) (fun h l => X5 (ix3 h l j)) l

/-- Whether the point is the first of its channel block, as the kernel decides it. -/
def firstPoint (i : grid0.Coords) : Prop :=
  Scalar.cmpi .ne (Scalar.extui (Scalar.cmpi .eq (BitVec.ofNat 32 (i 1).val) 0#32) : BitVec 32) 0#32 = 1#1

theorem plane_inb (h : Fin 16) : ∀ a, (![h.val, 0, 0] : Fin 3 → ℕ) a + S1x336x128.size a ≤ S16x336x128.size a := by
  intro a
  have := h.isLt
  match a with
  | ⟨0, _⟩ => show h.val + 1 ≤ 16; omega
  | ⟨1, _⟩ => show 0 + 336 ≤ 336; omega
  | ⟨2, _⟩ => show 0 + 128 ≤ 128; omega

theorem row_inb (h : Fin 16) : ∀ a, (![h.val, 0] : Fin 2 → ℕ) a + S1x128.size a ≤ S16x128.size a := by
  intro a
  have := h.isLt
  match a with
  | ⟨0, _⟩ => show h.val + 1 ≤ 16; omega
  | ⟨1, _⟩ => show 0 + 128 ≤ 128; omega

/-- The scratch's contents at the first point of a channel block, from what the three buffers read hold. -/
def storedOf (arg4 : Memref sig .tc .vmem S16x128 .f32) (arg5 : Memref sig .tc .vmem S16x336x128 .f32) (arg6 : Memref sig .tc .vmem S336x128 .f32)
    (f4 : BufTy.Contents (Elt Ideal) arg4.view.ty) (f5 : BufTy.Contents (Elt Ideal) arg5.view.ty) (f6 : BufTy.Contents (Elt Ideal) arg6.view.ty) :
    FVec Ideal S336x128 .f32 :=
  stored (View.readAt (Elt Ideal) arg6.view (Rect.unit (s := S336x128) ![0, 0] S336x128.size inb_S336x128_S336x128_0_0).toLoadRect f6)
    (fun h => View.readAt (Elt Ideal) arg4.view (Rect.unit (s := S16x128) ![h.val, 0] S1x128.size (row_inb h)).toLoadRect f4)
    (fun h => View.readAt (Elt Ideal) arg5.view (Rect.unit (s := S16x336x128) ![h.val, 0, 0] S1x336x128.size (plane_inb h)).toLoadRect f5)

theorem storedOf_holds (arg4 : Memref sig .tc .vmem S16x128 .f32) (arg5 : Memref sig .tc .vmem S16x336x128 .f32) (arg6 : Memref sig .tc .vmem S336x128 .f32)
    (f4 : BufTy.Contents (Elt Ideal) arg4.view.ty) (f5 : BufTy.Contents (Elt Ideal) arg5.view.ty) (f6 : BufTy.Contents (Elt Ideal) arg6.view.ty) :
    BiasHolds (arg4.view.read (Elt Ideal) f4) (arg5.view.read (Elt Ideal) f5) (arg6.view.read (Elt Ideal) f6) (storedOf arg4 arg5 arg6 f4 f5 f6) := by
  intro l j
  rw [storedOf, stored_apply, biasLane]
  congr 2
  · exact View.ld_unit_apply_of (arg6.view.read (Elt Ideal) f6) _ _ _ _ _ fun a => match a with
      | ⟨0, _⟩ => (Nat.zero_add _).symm
      | ⟨1, _⟩ => (Nat.zero_add _).symm
  · refine Finset.sum_congr rfl fun h _ => ?_
    congr 1
    · exact View.ld_unit_apply_of (arg4.view.read (Elt Ideal) f4) _ _ _ _ _ fun a => match a with
        | ⟨0, _⟩ => rfl
        | ⟨1, _⟩ => (Nat.zero_add _).symm
    · exact View.ld_unit_apply_of (arg5.view.read (Elt Ideal) f5) _ _ _ _ _ fun a => match a with
        | ⟨0, _⟩ => rfl
        | ⟨1, _⟩ => (Nat.zero_add _).symm
        | ⟨2, _⟩ => (Nat.zero_add _).symm

set_option maxHeartbeats 2000000 in
/-- The kernel body on whole buffers, with the values it leaves. -/
theorem body_value (c : Dev nD) (E : Set ℕ) (i : grid0.Coords)
    (arg2 : Memref sig .tc .vmem S16x336x128 .f32) (harg2 : arg2.IsWhole) (arg3 : Memref sig .tc .vmem S16x336x128 .f32) (harg3 : arg3.IsWhole)
    (arg4 : Memref sig .tc .vmem S16x128 .f32) (harg4 : arg4.IsWhole) (arg5 : Memref sig .tc .vmem S16x336x128 .f32) (harg5 : arg5.IsWhole)
    (arg6 : Memref sig .tc .vmem S336x128 .f32) (harg6 : arg6.IsWhole) (arg7 : Memref sig .tc .vmem S16x336x128 .f32) (harg7 : arg7.IsWhole)
    (arg8 : Memref sig .tc .vmem S336x128 .f32) (harg8 : arg8.IsWhole)
    (X2 : Vec Ideal S16x336x128 .f32) (X3 : Vec Ideal S16x336x128 .f32) (X4 : Vec Ideal S16x128 .f32) (X5 : Vec Ideal S16x336x128 .f32)
    (X6 : Vec Ideal S336x128 .f32) (Y : Vec Ideal S16x336x128 .f32) (S : Vec Ideal S336x128 .f32) (K : PUnit → sProp 𝕄) :
    iprop((owns (c : Thread nD τ) arg2 fullShare X2 ∗ owns (c : Thread nD τ) arg3 fullShare X3 ∗ owns (c : Thread nD τ) arg4 fullShare X4
          ∗ owns (c : Thread nD τ) arg5 fullShare X5 ∗ owns (c : Thread nD τ) arg6 fullShare X6 ∗ owns (c : Thread nD τ) arg7 fullShare Y
          ∗ owns (c : Thread nD τ) arg8 fullShare S)
        ∗ (iprop(∃ Y' S', ⌜OutHolds X2 X3 X5 S' Y' ∧ (firstPoint i → BiasHolds X4 X5 X6 S') ∧ (¬ firstPoint i → S' = S)⌝ ∗
          (owns (c : Thread nD τ) arg2 fullShare X2 ∗ owns (c : Thread nD τ) arg3 fullShare X3 ∗ owns (c : Thread nD τ) arg4 fullShare X4
          ∗ owns (c : Thread nD τ) arg5 fullShare X5 ∗ owns (c : Thread nD τ) arg6 fullShare X6 ∗ owns (c : Thread nD τ) arg7 fullShare Y'
          ∗ owns (c : Thread nD τ) arg8 fullShare S')) -∗ K ⟨⟩))
      ⊢ wp frame (wpE (defs₀ (F := Ideal)) Variants.none c none) E
          (cc0_esn_ltf_fused i arg2 harg2 arg3 harg3 arg4 harg4 arg5 harg5 arg6 harg6 arg7 harg7 arg8 harg8) K := by
  simp only [cc0_esn_ltf_fused_eq_skeleton]; unfold cc0_esn_ltf_fused_skel
  simp only [k0_part1_eq_skeleton, k0_part2_eq_skeleton, k0_part3_eq_skeleton, k0_part4_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  subst hf2 hf3 hf4 hf5 hf6 hf7 hf8
  by_cases hc : Scalar.cmpi .ne (Scalar.extui (Scalar.cmpi .eq (BitVec.ofNat 32 (i 1).val) 0#32) : BitVec 32) 0#32 = 1#1
  · sl_exec (disch := exact hc)
    sl_step
    iapply Hk
    iexists (arg7.view.read (Elt Ideal) (arg7.view.writes (Elt Ideal) f7
      (pb_k0_t1 Variants.none c none i arg2 harg2 arg3 harg3 arg4 harg4 arg5 harg5 arg6 harg6 arg7 harg7 arg8 harg8 f2 f3 f5
        (arg8.view.writes (Elt Ideal) arg8.view.junk (body_value.sl.H8_1 c arg4 arg5 arg6 f4 f5 f6)) k0_t1_loop.trips)))
    iexists (arg8.view.read (Elt Ideal) (arg8.view.writes (Elt Ideal) arg8.view.junk (body_value.sl.H8_1 c arg4 arg5 arg6 f4 f5 f6)))
    have hS : arg8.view.read (Elt Ideal) (arg8.view.writes (Elt Ideal) arg8.view.junk (body_value.sl.H8_1 c arg4 arg5 arg6 f4 f5 f6))
        = storedOf arg4 arg5 arg6 f4 f5 f6 := by
      unfold body_value.sl.H8_1
      exact View.read_writes_full arg8.view _ inb_S336x128_S336x128_0_0 _ []
    isplitr
    · ipureintro
      refine ⟨fun b l j => rows_read _ c _ i arg2 harg2 arg3 harg3 arg4 harg4 arg5 harg5 arg6 harg6 arg7 harg7 arg8 harg8 f2 f3 f5 _ f7 _ le_rfl b
        (lt_of_lt_of_eq b.isLt trips_eq.symm) l j, fun _ => by rw [hS]; exact storedOf_holds arg4 arg5 arg6 f4 f5 f6, fun h => absurd hc h⟩
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists _; isplitr; rotate_left; · iexact H7
                    ipureintro; rfl
    iexists _; isplitr; rotate_left
    · iexact H8
    ipureintro; rfl
  · sl_exec (disch := exact hc)
    sl_step
    iapply Hk
    iexists (arg7.view.read (Elt Ideal) (arg7.view.writes (Elt Ideal) f7
      (pb_k0_t1 Variants.none c none i arg2 harg2 arg3 harg3 arg4 harg4 arg5 harg5 arg6 harg6 arg7 harg7 arg8 harg8 f2 f3 f5 f8 k0_t1_loop.trips)))
    iexists (arg8.view.read (Elt Ideal) f8)
    isplitr
    · ipureintro
      refine ⟨fun b l j => rows_read _ c _ i arg2 harg2 arg3 harg3 arg4 harg4 arg5 harg5 arg6 harg6 arg7 harg7 arg8 harg8 f2 f3 f5 _ f7 _ le_rfl b
        (lt_of_lt_of_eq b.isLt trips_eq.symm) l j, fun h => absurd h hc, fun _ => rfl⟩
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists _; isplitr; rotate_left; · iexact H7
                    ipureintro; rfl
    iexists _; isplitr; rotate_left
    · iexact H8
    ipureintro; rfl

end Cert.KernelIdeal.Hand

end
-- ==== Proof.BlockReads.lean ====
/- What a block of each array holds, lane by lane: a block's lane inside the array reads the array at the channel it
   stands for, and the grid point says which channel block and which batch block that is. -/
module

public import proofs.«01_k».proof.Proof.BodyValue
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The batch block and the channel block of a grid point, and how much of a channel block lies inside the array. -/
theorem index_at : ∀ t : Fin grid0.N,
    win0_0.index t = ![t.val % 16, 0, t.val / 16] ∧ win0_1.index t = ![0, 0, t.val / 16]
    ∧ win0_2.index t = ![0, t.val / 16] ∧ win0_3.index t = ![0, 0, t.val / 16]
    ∧ win0_4.index t = ![0, t.val / 16] ∧ win0_5.index t = ![t.val % 16, 0, t.val / 16] := by
  decide +kernel

/-- The part of each block that lies inside its array. -/
theorem xsize_at : ∀ t : Fin grid0.N,
    win0_0.xsize (grid0.coords t) = ![16, 336, min 128 (862 - t.val / 16 * 128)]
    ∧ win0_1.xsize (grid0.coords t) = ![16, 336, min 128 (862 - t.val / 16 * 128)]
    ∧ win0_2.xsize (grid0.coords t) = ![16, min 128 (862 - t.val / 16 * 128)]
    ∧ win0_3.xsize (grid0.coords t) = ![16, 336, min 128 (862 - t.val / 16 * 128)]
    ∧ win0_4.xsize (grid0.coords t) = ![336, min 128 (862 - t.val / 16 * 128)]
    ∧ win0_5.xsize (grid0.coords t) = ![16, 336, min 128 (862 - t.val / 16 * 128)] := by
  decide +kernel

/-- The kernel takes a point for the first of its channel block exactly when the batch block is the first one. -/
theorem firstPoint_iff : ∀ t : Fin grid0.N, firstPoint (grid0.coords t) ↔ t.val % 16 = 0 := by
  unfold firstPoint
  decide +kernel

/-- A filled block at an index the transfer moves holds what the transfer brings there. -/
theorem fill_moved {α : Type} (w : Pipeline.Window sig grid0) (i : grid0.Coords) (d : w.block.Idx → α) (g : (w.xblock i).Idx → α)
    (j : w.block.Idx) (h : ∀ a, (j a).val < w.xsize i a) : w.fill i d g j = g fun a => ⟨(j a).val, h a⟩ := by
  unfold Pipeline.Window.fill
  rw [dif_pos ((w.moved_iff i j).mpr h)]

/-- A lane of a block that stands for a channel of the array lies in the part the transfer moves. -/
theorem lane_lt {q : ℕ} {j : Fin 128} {ch : Fin 862} (h : q * 128 + j.val = ch.val) : j.val < min 128 (862 - q * 128) := by
  have := j.isLt
  have := ch.isLt
  omega

variable (m : (ℓ : Loc nD τ sig) → Buf (Elt Ideal) ℓ) (c : Dev nD)

/-- The input's block at a point, at a lane inside the array. -/
theorem block_x (t : Fin grid0.N) (d : S16x336x128.Idx → Elt Ideal .f32) (b : Fin 16) (l : Fin 336) (j : Fin 128) (ch : Fin 862) (b' : Fin 256)
    (h : t.val / 16 * 128 + j.val = ch.val) (hb : t.val % 16 * 16 + b.val = b'.val) :
    win0_0.fill (grid0.coords t) d (iblk m c 0 t) (ix3 b l j) = V m c main_arg0 (ix3 b' l ch) := by
  have hx := (xsize_at t).1
  have hi := (index_at t).1
  have hl := lane_lt h
  rw [fill_moved]
  · blk_ext [iblk, hi]
  · rw [hx]
    intro a
    match a with
    | ⟨0, _⟩ => exact b.isLt
    | ⟨1, _⟩ => exact l.isLt
    | ⟨2, _⟩ => exact hl

/-- The hidden weights' block at a point, at a lane inside the array. -/
theorem block_w1 (t : Fin grid0.N) (d : S16x336x128.Idx → Elt Ideal .f32) (k : Fin 16) (l : Fin 336) (j : Fin 128) (ch : Fin 862)
    (h : t.val / 16 * 128 + j.val = ch.val) :
    win0_1.fill (grid0.coords t) d (iblk m c 1 t) (ix3 k l j) = V m c main_v2 (ix3 k l ch) := by
  have hx := (xsize_at t).2.1
  have hi := (index_at t).2.1
  have hl := lane_lt h
  rw [fill_moved]
  · blk_ext [iblk, hi]
  · rw [hx]
    intro a
    match a with
    | ⟨0, _⟩ => exact k.isLt
    | ⟨1, _⟩ => exact l.isLt
    | ⟨2, _⟩ => exact hl

/-- The hidden biases' block at a point, at a lane inside the array. -/
theorem block_b1 (t : Fin grid0.N) (d : S16x128.Idx → Elt Ideal .f32) (k : Fin 16) (j : Fin 128) (ch : Fin 862)
    (h : t.val / 16 * 128 + j.val = ch.val) :
    win0_2.fill (grid0.coords t) d (iblk m c 2 t) (ix2 k j) = V m c main_v6 (ix2 k ch) := by
  have hx := (xsize_at t).2.2.1
  have hi := (index_at t).2.2.1
  have hl := lane_lt h
  rw [fill_moved]
  · blk_ext [iblk, hi]
  · rw [hx]
    intro a
    match a with
    | ⟨0, _⟩ => exact k.isLt
    | ⟨1, _⟩ => exact hl

/-- The output weights' block at a point, at a lane inside the array. -/
theorem block_w2 (t : Fin grid0.N) (d : S16x336x128.Idx → Elt Ideal .f32) (k : Fin 16) (l : Fin 336) (j : Fin 128) (ch : Fin 862)
    (h : t.val / 16 * 128 + j.val = ch.val) :
    win0_3.fill (grid0.coords t) d (iblk m c 3 t) (ix3 k l j) = V m c main_v5 (ix3 k l ch) := by
  have hx := (xsize_at t).2.2.2.1
  have hi := (index_at t).2.2.2.1
  have hl := lane_lt h
  rw [fill_moved]
  · blk_ext [iblk, hi]
  · rw [hx]
    intro a
    match a with
    | ⟨0, _⟩ => exact k.isLt
    | ⟨1, _⟩ => exact l.isLt
    | ⟨2, _⟩ => exact hl

/-- The output biases' block at a point, at a lane inside the array. -/
theorem block_b2 (t : Fin grid0.N) (d : S336x128.Idx → Elt Ideal .f32) (l : Fin 336) (j : Fin 128) (ch : Fin 862)
    (h : t.val / 16 * 128 + j.val = ch.val) :
    win0_4.fill (grid0.coords t) d (iblk m c 4 t) (ix2 l j) = V m c main_v9 (ix2 l ch) := by
  have hx := (xsize_at t).2.2.2.2.1
  have hi := (index_at t).2.2.2.2.1
  have hl := lane_lt h
  rw [fill_moved]
  · blk_ext [iblk, hi]
  · rw [hx]
    intro a
    match a with
    | ⟨0, _⟩ => exact l.isLt
    | ⟨1, _⟩ => exact hl

/-- The scratch's row of a channel: the bias the kernel adds to every batch row of that channel. -/
def biasEntry (l : Fin 336) (ch : Fin 862) : EReal :=
  biasLane (fun l => V m c main_v9 (ix2 l ch)) (fun k => V m c main_v6 (ix2 k ch)) (fun k l => V m c main_v5 (ix3 k l ch)) l

/-- The kernel's result at an entry, from the arrays its blocks are cut from. -/
def resultEntry (b : Fin 256) (l : Fin 336) (ch : Fin 862) : EReal :=
  outLane (fun l => V m c main_arg0 (ix3 b l ch)) (fun k l => V m c main_v2 (ix3 k l ch)) (fun k l => V m c main_v5 (ix3 k l ch))
    (fun l => biasEntry m c l ch) l

/-- The kernel's result array. -/
def resultArray : S256x336x862.Idx → Elt Ideal .f32 := fun i => resultEntry m c (i 0) (i 1) (i 2)

theorem resultArray_at (b : Fin 256) (l : Fin 336) (ch : Fin 862) : resultArray m c (ix3 b l ch) = resultEntry m c b l ch := rfl

/-- A block of the result reads the array where the block's index lies in it. -/
theorem read_out (t : Fin grid0.N) (R : S256x336x862.Idx → Elt Ideal .f32) (y : (win0_5.xblock (grid0.coords t)).Idx) :
    (win0_5.blk t).view.read (Elt Ideal) R y = R ((win0_5.blk t).view.emb y) := rfl

/-- What the scratch holds between two points of a channel block: the bias of every channel of the block. -/
def ScratchHolds (q : ℕ) (S : S336x128.Idx → Elt Ideal .f32) : Prop :=
  ∀ (l : Fin 336) (j : Fin 128) (ch : Fin 862), q * 128 + j.val = ch.val → (S (ix2 l j) : EReal) = biasEntry m c l ch

theorem biasLane_congr {b2 b2' : Fin 336 → EReal} {b1 b1' : Fin 16 → EReal} {w2 w2' : Fin 16 → Fin 336 → EReal} (l : Fin 336)
    (h2 : ∀ l, b2 l = b2' l) (h1 : ∀ k, b1 k = b1' k) (hw : ∀ k l, w2 k l = w2' k l) :
    biasLane b2 b1 w2 l = biasLane b2' b1' w2' l := by
  rw [funext h2, funext h1, show w2 = w2' from funext fun k => funext (hw k)]

theorem outLane_congr {x x' : Fin 336 → EReal} {w1 w1' w2 w2' : Fin 16 → Fin 336 → EReal} {s s' : Fin 336 → EReal} (l : Fin 336)
    (hx : ∀ l, x l = x' l) (h1 : ∀ k l, w1 k l = w1' k l) (h2 : ∀ k l, w2 k l = w2' k l) (hs : ∀ l, s l = s' l) :
    outLane x w1 w2 s l = outLane x' w1' w2' s' l := by
  rw [funext hx, funext hs, show w1 = w1' from funext fun k => funext (h1 k), show w2 = w2' from funext fun k => funext (h2 k)]

/-- The scratch filled from the blocks at a point holds the biases of that point's channel block. -/
theorem scratch_of_bias (t : Fin grid0.N) (d2 : S16x128.Idx → Elt Ideal .f32) (d3 : S16x336x128.Idx → Elt Ideal .f32)
    (d4 : S336x128.Idx → Elt Ideal .f32) (S : S336x128.Idx → Elt Ideal .f32)
    (h : BiasHolds (win0_2.fill (grid0.coords t) d2 (iblk m c 2 t)) (win0_3.fill (grid0.coords t) d3 (iblk m c 3 t))
      (win0_4.fill (grid0.coords t) d4 (iblk m c 4 t)) S) : ScratchHolds m c (t.val / 16) S := by
  intro l j ch hj
  exact (h l j).trans (biasLane_congr l (fun l => block_b2 m c t d4 l j ch hj) (fun k => block_b1 m c t d2 k j ch hj)
    fun k l => block_w2 m c t d3 k l j ch hj)

/-- The output block of a point holds, at every lane inside the array, the result's entries. -/
theorem out_of_holds (t : Fin grid0.N) (d0 : S16x336x128.Idx → Elt Ideal .f32) (d1 d3 : S16x336x128.Idx → Elt Ideal .f32)
    (S : S336x128.Idx → Elt Ideal .f32) (Y : S16x336x128.Idx → Elt Ideal .f32) (hS : ScratchHolds m c (t.val / 16) S)
    (h : OutHolds (win0_0.fill (grid0.coords t) d0 (iblk m c 0 t)) (win0_1.fill (grid0.coords t) d1 (iblk m c 1 t))
      (win0_3.fill (grid0.coords t) d3 (iblk m c 3 t)) S Y) :
    win0_5.cut (grid0.coords t) Y = (win0_5.blk t).view.read (Elt Ideal) (resultArray m c) := by
  have hx := (xsize_at t).2.2.2.2.2
  have hi := (index_at t).2.2.2.2.2
  funext y
  have hN : t.val < 112 := lt_of_lt_of_eq t.isLt N_0
  have h0 : (y 0).val < 16 := lt_of_lt_of_eq (y 0).isLt (congrFun hx 0)
  have h1 : (y 1).val < 336 := lt_of_lt_of_eq (y 1).isLt (congrFun hx 1)
  have h2 : (y 2).val < min 128 (862 - t.val / 16 * 128) := lt_of_lt_of_eq (y 2).isLt (congrFun hx 2)
  have key := h ⟨(y 0).val, h0⟩ ⟨(y 1).val, h1⟩ ⟨(y 2).val, by omega⟩
  have hch : t.val / 16 * 128 + (y 2).val < 862 := by omega
  have hb : t.val % 16 * 16 + (y 0).val < 256 := by omega
  have e : (win0_5.blk t).view.read (Elt Ideal) (resultArray m c) y
      = resultEntry m c ⟨t.val % 16 * 16 + (y 0).val, hb⟩ ⟨(y 1).val, h1⟩ ⟨t.val / 16 * 128 + (y 2).val, hch⟩ := by
    have ei : (win0_5.blk t).view.emb y = ix3 (⟨t.val % 16 * 16 + (y 0).val, hb⟩ : Fin 256) (⟨(y 1).val, h1⟩ : Fin 336)
        (⟨t.val / 16 * 128 + (y 2).val, hch⟩ : Fin 862) := by blk_ext [hi]
    rw [read_out, ei, resultArray_at]
  have ey : win0_5.xinj (grid0.coords t) y = ix3 (⟨(y 0).val, h0⟩ : Fin 16) (⟨(y 1).val, h1⟩ : Fin 336) (⟨(y 2).val, by omega⟩ : Fin 128) :=
    funext fun a => match a with
      | ⟨0, _⟩ => rfl
      | ⟨1, _⟩ => rfl
      | ⟨2, _⟩ => rfl
  rw [e]
  refine (congrArg Y ey).trans (key.trans ?_)
  exact outLane_congr _ (fun l => block_x m c t d0 _ l _ _ _ rfl rfl) (fun k l => block_w1 m c t d1 k l _ _ rfl)
    (fun k l => block_w2 m c t d3 k l _ _ rfl) (fun l => hS l _ _ rfl)

end Cert.KernelIdeal.Hand

end
-- ==== Proof.ValueRun.lean ====
/- The kernel's run over the extended reals, with the value: from any memory it ends with the result array holding its
   entries of the arrays its blocks are cut from, and the arguments as they were. -/
module

public import proofs.«01_k».proof.Proof.BlockReads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The lanes of a block past its array's end, where nothing is stated. -/
def zeros {s : Shape} : s.Idx → Elt Ideal .f32 := fun _ => (0 : EReal)

/-- What the loop carries besides the staging buffers: the scratch, which between two points of a channel block holds
    that block's biases, and the random-number register. -/
def carried (c : Dev nD) (n : ℕ) : sProp 𝕄 :=
  iprop((∃ S : S336x128.Idx → Elt Ideal .f32, ⌜n % 16 ≠ 0 → ScratchHolds m c (n / 16) S⌝
      ∗ ((c : Thread nD τ).loc cc0_scratch0) ↦{fullShare} S) ∗ ∃ r, prngReg c r)

/-- The proof data of the run with the value: each input's buffer holds its block, the output's the result's block, on
    the lanes inside the array. -/
def valueDats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zeros (iblk m c 0 t)
    | ⟨1, _⟩ => win0_1.fill (grid0.coords t) zeros (iblk m c 1 t)
    | ⟨2, _⟩ => win0_2.fill (grid0.coords t) zeros (iblk m c 2 t)
    | ⟨3, _⟩ => win0_3.fill (grid0.coords t) zeros (iblk m c 3 t)
    | ⟨4, _⟩ => win0_4.fill (grid0.coords t) zeros (iblk m c 4 t)
    | ⟨5, _⟩ => win0_5.fill (grid0.coords t) zeros ((win0_5.blk t).view.read (Elt Ideal) (resultArray m c))
  Φ t := carried m c t.val
  q _ := fullShare
  owed _ := 0

theorem before_x (c : Dev nD) (t : Fin cfg0.N) (d) :
    (valueDats m 0 c).before (0 : Fin 6) t d = win0_0.fill (grid0.coords t) d (iblk m c 0 t) := by
  unfold Dat.before; rw [if_pos (fetch0_0 t)]; rfl

theorem before_w1 (c : Dev nD) (t : Fin cfg0.N) (d) :
    (valueDats m 0 c).before (1 : Fin 6) t d = win0_1.fill (grid0.coords t) d (iblk m c 1 t) :=
  (valueDats m 0 c).before_in_eq_fetched 1 rfl (fun _ => rfl)
    (fun _ _ h => funext fun a => congrArg (fun n => Pipeline.Clip.of n (S16x336x128.size a) (S16x336x862.size a)) (congrFun h a))
    (fun t => win0_1.cut_fill (grid0.coords t) zeros (iblk m c 1 t)) t d

theorem before_b1 (c : Dev nD) (t : Fin cfg0.N) (d) :
    (valueDats m 0 c).before (2 : Fin 6) t d = win0_2.fill (grid0.coords t) d (iblk m c 2 t) :=
  (valueDats m 0 c).before_in_eq_fetched 2 rfl (fun _ => rfl)
    (fun _ _ h => funext fun a => congrArg (fun n => Pipeline.Clip.of n (S16x128.size a) (S16x862.size a)) (congrFun h a))
    (fun t => win0_2.cut_fill (grid0.coords t) zeros (iblk m c 2 t)) t d

theorem before_w2 (c : Dev nD) (t : Fin cfg0.N) (d) :
    (valueDats m 0 c).before (3 : Fin 6) t d = win0_3.fill (grid0.coords t) d (iblk m c 3 t) :=
  (valueDats m 0 c).before_in_eq_fetched 3 rfl (fun _ => rfl)
    (fun _ _ h => funext fun a => congrArg (fun n => Pipeline.Clip.of n (S16x336x128.size a) (S16x336x862.size a)) (congrFun h a))
    (fun t => win0_3.cut_fill (grid0.coords t) zeros (iblk m c 3 t)) t d

theorem before_b2 (c : Dev nD) (t : Fin cfg0.N) (d) :
    (valueDats m 0 c).before (4 : Fin 6) t d = win0_4.fill (grid0.coords t) d (iblk m c 4 t) :=
  (valueDats m 0 c).before_in_eq_fetched 4 rfl (fun _ => rfl)
    (fun _ _ h => funext fun a => congrArg (fun n => Pipeline.Clip.of n (S336x128.size a) (S336x862.size a)) (congrFun h a))
    (fun t => win0_4.cut_fill (grid0.coords t) zeros (iblk m c 4 t)) t d

/-- After a point the scratch holds the biases of that point's channel block. -/
theorem scratch_after (c : Dev nD) (t : Fin grid0.N) (d2 : S16x128.Idx → Elt Ideal .f32) (d3 : S16x336x128.Idx → Elt Ideal .f32)
    (d4 : S336x128.Idx → Elt Ideal .f32) (S S' : S336x128.Idx → Elt Ideal .f32)
    (h : t.val % 16 ≠ 0 → ScratchHolds m c (t.val / 16) S)
    (hf : firstPoint (grid0.coords t) → BiasHolds (win0_2.fill (grid0.coords t) d2 (iblk m c 2 t))
      (win0_3.fill (grid0.coords t) d3 (iblk m c 3 t)) (win0_4.fill (grid0.coords t) d4 (iblk m c 4 t)) S')
    (hk : ¬ firstPoint (grid0.coords t) → S' = S) : ScratchHolds m c (t.val / 16) S' := by
  by_cases h0 : t.val % 16 = 0
  · exact scratch_of_bias m c t d2 d3 d4 S' (hf ((firstPoint_iff t).mpr h0))
  · rw [hk fun hp => h0 ((firstPoint_iff t).mp hp)]
    exact h h0

/-- At every point the body hands back the input blocks as they came, the output block at the result's entries and the
    scratch at the channel block's biases. -/
theorem value_obligation (c : Dev nD) :
    BodyObligationLoose (valueDats m 0 c) (defs₀ (F := Ideal)) Variants.none () Set.univ := fun t => by
  rw [bigSep_W0, bigSep_W0]
  simp only
  rw [show (valueDats m 0 c).Φ t.succ = carried m c (t.val + 1) from rfl,
    show (valueDats m 0 c).Φ t.castSucc = carried m c t.val from rfl,
    show (valueDats m 0 c).owesAt () t.succ = (valueDats m 0 c).owesAt () t.castSucc from rfl]
  unfold carried
  iintro ⟨⟨⟨%S, %hS, HS⟩, HP⟩, Ho, ⟨%d0, H0⟩, ⟨%d1, H1⟩, ⟨%d2, H2⟩, ⟨%d3, H3⟩, ⟨%d4, H4⟩, ⟨%d5, H5⟩⟩
  rw [before_x m c t d0, before_w1 m c t d1, before_b1 m c t d2, before_w2 m c t d3, before_b2 m c t d4]
  iapply (body_value c Set.univ (grid0.coords t) _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) _ S _)
  isplitl [H0 H1 H2 H3 H4 H5 HS]
  · rw [owns_whole_eq]
    iframe
    iexists S
    isplitr
    · ipureintro; rfl
    · iexact HS
  · simp only [owns_whole_eq]
    iintro ⟨%Y, %S', %hY, H0, H1, H2, H3, H4, H5, ⟨%f, %hf, HS⟩⟩
    subst hf
    have hS' := scratch_after m c t d2 d3 d4 S f hS hY.2.1 hY.2.2
    have hout := out_of_holds m c t d0 d1 d3 f Y hS' hY.1
    isplitl [HS HP]
    · isplitl [HS]
      · iexists f
        isplitr
        · ipureintro
          intro hn
          have e : (t.val + 1) / 16 = t.val / 16 := by omega
          rw [e]
          exact hS'
        · iexact HS
      · iexact HP
    isplitl [Ho]; · iexact Ho
    isplitl [H0]
    · iexists d0
      change _ ⊢ owns (c : Thread nD τ) (stage0_0 (cfg0.slots t 0)) fullShare
        (win0_0.fill (grid0.coords t) d0 (win0_0.cut (grid0.coords t) (win0_0.fill (grid0.coords t) zeros (iblk m c 0 t))))
      rw [win0_0.cut_fill]
    isplitl [H1]
    · iexists d1
      change _ ⊢ owns (c : Thread nD τ) (stage0_1 (cfg0.slots t 1)) fullShare
        (win0_1.fill (grid0.coords t) d1 (win0_1.cut (grid0.coords t) (win0_1.fill (grid0.coords t) zeros (iblk m c 1 t))))
      rw [win0_1.cut_fill]
    isplitl [H2]
    · iexists d2
      change _ ⊢ owns (c : Thread nD τ) (stage0_2 (cfg0.slots t 2)) fullShare
        (win0_2.fill (grid0.coords t) d2 (win0_2.cut (grid0.coords t) (win0_2.fill (grid0.coords t) zeros (iblk m c 2 t))))
      rw [win0_2.cut_fill]
    isplitl [H3]
    · iexists d3
      change _ ⊢ owns (c : Thread nD τ) (stage0_3 (cfg0.slots t 3)) fullShare
        (win0_3.fill (grid0.coords t) d3 (win0_3.cut (grid0.coords t) (win0_3.fill (grid0.coords t) zeros (iblk m c 3 t))))
      rw [win0_3.cut_fill]
    isplitl [H4]
    · iexists d4
      change _ ⊢ owns (c : Thread nD τ) (stage0_4 (cfg0.slots t 4)) fullShare
        (win0_4.fill (grid0.coords t) d4 (win0_4.cut (grid0.coords t) (win0_4.fill (grid0.coords t) zeros (iblk m c 4 t))))
      rw [win0_4.cut_fill]
    · iexists Y
      change _ ⊢ owns (c : Thread nD τ) (stage0_5 (cfg0.slots t 5)) fullShare
        (win0_5.fill (grid0.coords t) Y (win0_5.cut (grid0.coords t) (win0_5.fill (grid0.coords t) zeros
          ((win0_5.blk t).view.read (Elt Ideal) (resultArray m c)))))
      rw [win0_5.cut_fill, ← hout, win0_5.fill_cut]

/-- The blocks written back tile the result, so the run leaves it at its entries. -/
theorem result_array (c : Dev nD) : (valueDats m 0 c).arrAt 5 cfg0.N = resultArray m c := by
  refine (valueDats m 0 c).arrAt_eq_of_covers 5 _ (by decide +kernel) fun t _ y => ?_
  exact win0_5.fill_xinj (grid0.coords t) zeros ((win0_5.blk t).view.read (Elt Ideal) (resultArray m c)) y

set_option backward.isDefEq.respectTransparency.types false in
/-- The kernel runs to the end from any memory: the result holds its entries, the five arguments what they held. -/
theorem value_run : θ_run (defs (F := Ideal)) (onTc (τ := τ) (main (F := Ideal)))
    ⟨m, fun _ => 0, ρ⟩ (fun r => ∀ c : Dev nD,
      r.2.mem ((c.tc : Thread nD τ).loc main_v10) = resultArray m c ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  Pipeline.θ_run_frame_track cfgs (valueDats m) 0 launch0 defs₀ Variants.none m ρ _
    (value_obligation m) (fun c w => (valueDats m 0 c).share_full (fun _ => rfl) w) (fun _ _ => rfl) (V m) (hmain m _) (fun _ _ => rfl)
    (fun c => by
      show Pipeline.ΦA spec0 c ⊢ carried m c 0
      unfold Pipeline.ΦA carried
      rw [scopedRest0_eq]
      iintro ⟨⟨%S, HS⟩, HP⟩
      isplitl [HS]
      · iexists S
        isplitr
        · ipureintro; intro h; exact absurd rfl h
        · iexact HS
      · iexact HP)
    (fun c => by
      show carried m c (Fin.last cfg0.N).val ⊢ Pipeline.ΦA spec0 c
      unfold Pipeline.ΦA carried
      rw [scopedRest0_eq]
      iintro ⟨⟨%S, %hS, HS⟩, HP⟩
      isplitl [HS]
      · iexists S; iexact HS
      · iexact HP)
    _
    fun r h c => ⟨((h.1 c).1 5).trans (result_array m c),
      (((h.1 c).1 0).trans ((valueDats m 0 c).arrAt_in 0 rfl _)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩

end Cert.KernelIdeal.Hand

end
-- ==== Proof.HostPrefix.lean ====
/- What the kernel's blocks are cut from, in terms of the arguments: the two weights and the two biases with the channel
   last, each row of 56 repeated for the six positions of a segment. -/
module

public import proofs.«01_k».proof.Proof.ValueRun
public import Idealize.ShloMosaic.Lib.Pointwise
public import Idealize.ShloMosaic.Lib.StableHlo.ReadAt

@[expose] public section

set_option maxRecDepth 16384

noncomputable section

namespace Cert.KernelIdeal.Hand

open Cert.Proof
open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The hidden weights as the kernel's blocks are cut from: the weight of a row is its segment's. -/
theorem hidden_weight_at (k : Fin 16) (l : Fin 336) (ch : Fin 862) :
    V m c main_v2 (ix3 k l ch) = m ((c.tc : Thread nD τ).loc main_arg1) (ix3 ch (segOf l) k) := by
  entry_read
  pointwise
  rfl

/-- The hidden biases as the kernel's blocks are cut from. -/
theorem hidden_bias_at (k : Fin 16) (ch : Fin 862) :
    V m c main_v6 (ix2 k ch) = m ((c.tc : Thread nD τ).loc main_arg2) (ix2 ch k) := by
  entry_read
  pointwise

/-- The output weights as the kernel's blocks are cut from: the weight of a row is its segment's. -/
theorem out_weight_at (k : Fin 16) (l : Fin 336) (ch : Fin 862) :
    V m c main_v5 (ix3 k l ch) = m ((c.tc : Thread nD τ).loc main_arg3) (ix3 ch k (segOf l)) := by
  entry_read
  pointwise
  rfl

/-- The output biases as the kernel's blocks are cut from: the bias of a row is its segment's. -/
theorem out_bias_at (l : Fin 336) (ch : Fin 862) :
    V m c main_v9 (ix2 l ch) = m ((c.tc : Thread nD τ).loc main_arg4) (ix2 ch (segOf l)) := by
  entry_read
  pointwise
  rfl

/-- An entry of the kernel's result, from its column of the input and its channel's weights and biases. -/
def kernelLane (x : Fin 336 → EReal) (w1 : Fin 56 → Fin 16 → EReal) (b1 : Fin 16 → EReal) (w2 : Fin 16 → Fin 56 → EReal)
    (b2 : Fin 56 → EReal) (l : Fin 336) : EReal :=
  outLane x (fun k l => w1 (segOf l) k) (fun k l => w2 k (segOf l))
    (fun l => biasLane (fun l => b2 (segOf l)) b1 (fun k l => w2 k (segOf l)) l) l

/-- The kernel's result entry in terms of the arguments. -/
theorem resultEntry_eq (b : Fin 256) (l : Fin 336) (ch : Fin 862) :
    resultEntry m c b l ch = kernelLane (fun l => m ((c.tc : Thread nD τ).loc main_arg0) (ix3 b l ch))
      (fun s k => m ((c.tc : Thread nD τ).loc main_arg1) (ix3 ch s k)) (fun k => m ((c.tc : Thread nD τ).loc main_arg2) (ix2 ch k))
      (fun k s => m ((c.tc : Thread nD τ).loc main_arg3) (ix3 ch k s)) (fun s => m ((c.tc : Thread nD τ).loc main_arg4) (ix2 ch s)) l :=
  outLane_congr l (fun _ => congrFun (V_main_arg0 m c) _) (fun k l => hidden_weight_at m c k l ch) (fun k l => out_weight_at m c k l ch)
    fun l => biasLane_congr l (fun l => out_bias_at m c l ch) (fun k => hidden_bias_at m c k ch) fun k l => out_weight_at m c k l ch

end Cert.KernelIdeal.Hand

end
-- ==== Proof.Equation.lean ====
/- The equation: on finite arguments the kernel's entry is the reference's. Over the reals the reference transforms every
   segment, applies the two layers to each frequency and transforms back; because the transform is orthogonal this is the
   two layers applied to each phase, with the biases scaled by the sum of the phase's column. -/
module

public import proofs.«01_k».proof.Proof.CosineTable
public import proofs.«01_k».proof.Proof.HostPrefix

@[expose] public section

noncomputable section

namespace Cert.Proof

open Cert.ReferenceIdeal.Hand (dct meanOf referenceLane)
open Cert.KernelIdeal.Hand (kernelLane outLane biasLane meanLane)

/-- Transforming six numbers and transforming back returns them. -/
theorem dct_inverse (y : Fin 6 → ℝ) (m : Fin 6) : ∑ k, (∑ n, y n * dct k n) * dct k m = y m := by
  simp only [Finset.sum_mul]
  rw [Finset.sum_comm]
  simp only [mul_assoc, ← Finset.mul_sum, dct_orthogonal]
  simp

/-- Two affine layers applied at each frequency, weighted by `d` and added, are the layers applied to the weighted sums, with
    the biases scaled by the sum of the weights. -/
theorem layers_weighted {K G S : Type*} [Fintype K] [Fintype G] [Fintype S] (f : S → K → ℝ) (a : S → G → ℝ) (b : G → ℝ) (w : G → ℝ)
    (e : ℝ) (d : K → ℝ) :
    ∑ k, ((∑ g, w g * ((∑ s, a s g * f s k) + b g)) + e) * d k
      = ∑ g, w g * ((∑ s, a s g * ∑ k, f s k * d k) + b g * ∑ k, d k) + e * ∑ k, d k := by
  simp only [add_mul, Finset.sum_add_distrib, ← Finset.mul_sum]
  congr 1
  simp only [Finset.sum_mul]
  rw [Finset.sum_comm]
  refine Finset.sum_congr rfl fun g _ => ?_
  simp only [mul_add, add_mul, Finset.sum_add_distrib, Finset.mul_sum, Finset.sum_mul]
  congr 1
  · rw [Finset.sum_comm]
    exact Finset.sum_congr rfl fun s _ => Finset.sum_congr rfl fun k _ => by ring
  · exact Finset.sum_congr rfl fun k _ => by ring

section
variable (x : Fin 336 → ℝ) (w1 : Fin 56 → Fin 16 → ℝ) (b1 : Fin 16 → ℝ) (w2 : Fin 16 → Fin 56 → ℝ) (b2 : Fin 56 → ℝ) (l : Fin 336)

/-- The mean of a column of real numbers. -/
def meanReal : ℝ := (∑ l, x l) * (1 / 336)

/-- The kernel's entry over the reals. -/
def kernelReal : ℝ :=
  ((b2 (segOf l) + ∑ h, b1 h * w2 h (segOf l)) * KernelIdeal.Hand.tsum (phase l) + meanReal x)
    + ∑ h, (∑ g, (x (seg g (phase l)) - meanReal x) * w1 g h) * w2 h (segOf l)

/-- The reference's entry over the reals. -/
def referenceReal : ℝ :=
  (∑ k, ((∑ g, w2 g (segOf l) * ((∑ s, w1 s g * ∑ n, (x (seg s n) - meanReal x) * dct k n) + b1 g)) + b2 (segOf l)) * dct k (phase l))
    + meanReal x

/-- Over the reals the two entries are equal. -/
theorem real_equation : kernelReal x w1 b1 w2 b2 l = referenceReal x w1 b1 w2 b2 l := by
  unfold kernelReal referenceReal
  rw [layers_weighted (fun s k => ∑ n, (x (seg s n) - meanReal x) * dct k n) w1 b1 (fun g => w2 g (segOf l)) (b2 (segOf l))
    fun k => dct k (phase l)]
  simp only [dct_inverse (fun n => x (seg _ n) - meanReal x), dct_column_sum]
  simp only [add_mul, mul_add, Finset.sum_add_distrib, Finset.sum_mul, Finset.mul_sum]
  have layers : ∑ h, ∑ g, w2 h (segOf l) * (w1 g h * (x (seg g (phase l)) - meanReal x))
      = ∑ h, ∑ g, (x (seg g (phase l)) - meanReal x) * w1 g h * w2 h (segOf l) :=
    Finset.sum_congr rfl fun h _ => Finset.sum_congr rfl fun g _ => by ring
  have biases : ∑ h, w2 h (segOf l) * (b1 h * KernelIdeal.Hand.tsum (phase l))
      = ∑ h, b1 h * w2 h (segOf l) * KernelIdeal.Hand.tsum (phase l) := Finset.sum_congr rfl fun h _ => by ring
  rw [layers, biases]
  ring

end

/-- A finite sum of real numbers is the same number in the extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

section
variable (x : Fin 336 → ℝ) (w1 : Fin 56 → Fin 16 → ℝ) (b1 : Fin 16 → ℝ) (w2 : Fin 16 → Fin 56 → ℝ) (b2 : Fin 56 → ℝ) (l : Fin 336)

/-- On real arguments the kernel's entry is the real one. -/
theorem kernelLane_coe : kernelLane (fun l => (x l : EReal)) (fun s k => (w1 s k : EReal)) (fun k => (b1 k : EReal))
    (fun k s => (w2 k s : EReal)) (fun s => (b2 s : EReal)) l = (kernelReal x w1 b1 w2 b2 l : ℝ) := by
  simp only [kernelLane, outLane, biasLane, meanLane, kernelReal, meanReal, segOf_seg, ← coe_sum, ← EReal.coe_add, ← EReal.coe_sub,
    ← EReal.coe_mul]

/-- On real arguments the reference's entry is the real one. -/
theorem referenceLane_coe : referenceLane (fun l => (x l : EReal)) (fun s k => (w1 s k : EReal)) (fun k => (b1 k : EReal))
    (fun k s => (w2 k s : EReal)) (fun s => (b2 s : EReal)) l = (referenceReal x w1 b1 w2 b2 l : ℝ) := by
  simp only [referenceLane, meanOf, referenceReal, meanReal, ← coe_sum, ← EReal.coe_add, ← EReal.coe_sub, ← EReal.coe_mul]

end

/-- An extended real that is neither infinity. -/
def IsReal (v : EReal) : Prop := v ≠ ⊤ ∧ v ≠ ⊥

/-- Where every argument is finite, the kernel's entry is the reference's. -/
theorem entry_equation (x : Fin 336 → EReal) (w1 : Fin 56 → Fin 16 → EReal) (b1 : Fin 16 → EReal) (w2 : Fin 16 → Fin 56 → EReal)
    (b2 : Fin 56 → EReal) (l : Fin 336) (hx : ∀ l, IsReal (x l)) (hw1 : ∀ s k, IsReal (w1 s k)) (hb1 : ∀ k, IsReal (b1 k))
    (hw2 : ∀ k s, IsReal (w2 k s)) (hb2 : ∀ s, IsReal (b2 s)) : kernelLane x w1 b1 w2 b2 l = referenceLane x w1 b1 w2 b2 l := by
  have lift : ∀ v : EReal, IsReal v → ∃ r : ℝ, v = (r : EReal) := fun v h => ⟨v.toReal, (EReal.coe_toReal h.1 h.2).symm⟩
  choose xr ex using fun l => lift _ (hx l)
  choose w1r ew1 using fun s k => lift _ (hw1 s k)
  choose b1r eb1 using fun k => lift _ (hb1 k)
  choose w2r ew2 using fun k s => lift _ (hw2 k s)
  choose b2r eb2 using fun s => lift _ (hb2 s)
  obtain rfl := funext ex
  obtain rfl := funext₂ ew1
  obtain rfl := funext eb1
  obtain rfl := funext₂ ew2
  obtain rfl := funext eb2
  rw [kernelLane_coe, referenceLane_coe, real_equation]

end Cert.Proof

end
-- ==== Proof.Finite.lean ====
/- The precondition, read back: where it holds, no entry of an argument is an infinity. -/
module

public import proofs.«01_k».proof.Defs
public import proofs.«01_k».proof.Proof.Gen.Pre_finite
public import proofs.«01_k».proof.Proof.Equation
public import Idealize.ShloMosaic.Lib.ReduceAll

@[expose] public section

noncomputable section

namespace Cert.Proof

open Idealize.ShloMosaic
open Cert.Pre_finite (S_)

/-- An extended real whose absolute value is below the bit pattern of infinity is a real number. -/
theorem isReal_of_abs_lt (v : Ideal .f32)
    (h : FloatOps.cmpf .olt (FloatOps.hostAbsf v) (FloatOps.ofBits .f32 0x7F800000#32 : Ideal .f32) = 1#1) : IsReal v := by
  have top : (FloatOps.ofBits .f32 0x7F800000#32 : Ideal .f32) = (⊤ : EReal) := by
    show Ideal.ofBits .f32 0x7F800000#32 = ⊤
    simp [Ideal.ofBits, Ideal.ieee]
  rw [top, Ideal.cmpf_def] at h
  have lt : max (v : EReal) (-v) < ⊤ := by
    by_contra hn
    have : Ideal.cmp .olt (max (v : EReal) (-v)) ⊤ = 0#1 := by simp only [Ideal.cmp, hn]; rfl
    exact absurd (h.symm.trans this) (by decide)
  refine ⟨fun e => ?_, fun e => ?_⟩ <;> simp [e] at lt

instance : Subsingleton S_.Idx := ⟨fun a b => funext fun i => i.elim0⟩

/-- One array's part of the precondition, at an entry. -/
theorem isReal_of_all {s : Shape} {axes : List (Fin s.rank)} (x : FVec Ideal s .f32) (b : S_.BroadcastsInDim s (![] : Fin 0 → Fin s.rank))
    (r : s.ReducesTo axes S_) (hu : 0 < S_.numel) (j : S_.Idx)
    (h : Host.reduce IntOp.andi (cmpf .olt (Host.absf x) (broadcastInDim s ![] b (constant (F := Ideal) S_ .f32 0x7F800000#32)))
      (constantI S_ 1 1#1) r hu j = 1#1) (i : s.Idx) : IsReal (x i) :=
  isReal_of_abs_lt (x i) (Host.reduce_andi_all _ _ r hu j h i)

/-- Where the precondition's function is one, every entry of every argument is a real number. -/
theorem isReal_of_finite (x0 : FVec Ideal Pre_finite.S256x336x862 .f32) (x1 : FVec Ideal Pre_finite.S862x56x16 .f32)
    (x2 : FVec Ideal Pre_finite.S862x16 .f32) (x3 : FVec Ideal Pre_finite.S862x16x56 .f32) (x4 : FVec Ideal Pre_finite.S862x56 .f32)
    (h : Pre_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ ∀ i, IsReal (x4 i) := by
  have h0 := congrFun h fun i => i.elim0
  dsimp only [Pre_finite.fn, Pre_finite.fn_part1] at h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨isReal_of_all x0 _ _ _ _ r0, isReal_of_all x1 _ _ _ _ r1, isReal_of_all x2 _ _ _ _ r2, isReal_of_all x3 _ _ _ _ r3,
    isReal_of_all x4 _ _ _ _ r4⟩

end Cert.Proof

end
-- ==== Proof.Algebraic.lean ====
/- The value claim: from finite arguments the idealized kernel's run leaves the array the idealized reference's run leaves. -/
module

public import proofs.«01_k».proof.Defs
public import proofs.«01_k».proof.Proof.Finite
public import proofs.«01_k».proof.Proof.HostPrefix
public import proofs.«01_k».proof.Proof.ReferenceValue
public import proofs.«01_k».proof.Proof.Equation

@[expose] public section

noncomputable section

namespace Cert.Proof

open Idealize.ShloMosaic Idealize.ShloMosaic.TcCoe Idealize.SL.Sem
open Cert.KernelIdeal.Hand (resultArray)

/-- Two columns agree entry by entry, so the reference's entries of them agree. -/
theorem referenceLane_congr {x x' : Fin 336 → EReal} {w1 w1' : Fin 56 → Fin 16 → EReal} {b1 b1' : Fin 16 → EReal}
    {w2 w2' : Fin 16 → Fin 56 → EReal} {b2 b2' : Fin 56 → EReal} (l : Fin 336) (hx : x = x') (hw1 : w1 = w1') (hb1 : b1 = b1')
    (hw2 : w2 = w2') (hb2 : b2 = b2') :
    ReferenceIdeal.Hand.referenceLane x w1 b1 w2 b2 l = ReferenceIdeal.Hand.referenceLane x' w1' b1' w2' b2' l := by
  rw [hx, hw1, hb1, hw2, hb2]

/-- From memories with the same finite arguments, the reference's result is the kernel's, entry by entry. -/
theorem same_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    [Cert.Pre_finite.Facts] (finite : Pre_KernelIdeal_finite m)
    (e0 : m' ((c.tc : Thread ReferenceIdeal.nD ReferenceIdeal.τ).loc ReferenceIdeal.main_arg0)
      = m ((c.tc : Thread KernelIdeal.nD KernelIdeal.τ).loc KernelIdeal.main_arg0))
    (e1 : m' ((c.tc : Thread ReferenceIdeal.nD ReferenceIdeal.τ).loc ReferenceIdeal.main_arg1)
      = m ((c.tc : Thread KernelIdeal.nD KernelIdeal.τ).loc KernelIdeal.main_arg1))
    (e2 : m' ((c.tc : Thread ReferenceIdeal.nD ReferenceIdeal.τ).loc ReferenceIdeal.main_arg2)
      = m ((c.tc : Thread KernelIdeal.nD KernelIdeal.τ).loc KernelIdeal.main_arg2))
    (e3 : m' ((c.tc : Thread ReferenceIdeal.nD ReferenceIdeal.τ).loc ReferenceIdeal.main_arg3)
      = m ((c.tc : Thread KernelIdeal.nD KernelIdeal.τ).loc KernelIdeal.main_arg3))
    (e4 : m' ((c.tc : Thread ReferenceIdeal.nD ReferenceIdeal.τ).loc ReferenceIdeal.main_arg4)
      = m ((c.tc : Thread KernelIdeal.nD KernelIdeal.τ).loc KernelIdeal.main_arg4)) :
    ReferenceIdeal.Value.res_main_v48 (F := Ideal) m' c = resultArray m c := by
  obtain ⟨r0, r1, r2, r3, r4⟩ := isReal_of_finite _ _ _ _ _ (finite c)
  funext i
  obtain ⟨b, l, ch, rfl⟩ : ∃ (b : Fin 256) (l : Fin 336) (ch : Fin 862), i = ix3 b l ch :=
    ⟨i 0, i 1, i 2, funext fun a => match a with
      | ⟨0, _⟩ => rfl
      | ⟨1, _⟩ => rfl
      | ⟨2, _⟩ => rfl⟩
  refine (ReferenceIdeal.Hand.reference_entry m' c b l ch).trans ?_
  refine Eq.trans ?_ (KernelIdeal.Hand.resultArray_at m c b l ch).symm
  refine Eq.trans ?_ (KernelIdeal.Hand.resultEntry_eq m c b l ch).symm
  refine Eq.trans ?_ (entry_equation _ _ _ _ _ l (fun _ => r0 _) (fun _ _ => r1 _) (fun _ => r2 _) (fun _ _ => r3 _) fun _ => r4 _).symm
  exact referenceLane_congr l (funext fun _ => congrFun e0 _) (funext₂ fun _ _ => congrFun e1 _) (funext fun _ => congrFun e2 _)
    (funext₂ fun _ _ => congrFun e3 _) (funext fun _ => congrFun e4 _)

/-- From finite arguments, the idealized kernel and the idealized reference leave the same array, and leave their arguments. -/
theorem algebraic [Cert.Pre_finite.Facts] : Cert.algebraic_KernelIdeal_ReferenceIdeal_pre_finite :=
  fun m g m' g' finite same => ⟨fun c => resultArray m c, KernelIdeal.Hand.value_run m g,
    (θ_run ReferenceIdeal.defs _ _).mono
      (fun r h c => ⟨(h c).1.trans (same_result m m' c finite (same c).1 (same c).2.1 (same c).2.2.1 (same c).2.2.2.1 (same c).2.2.2.2),
        (h c).2⟩)
      (ReferenceIdeal.Value.run (F := Ideal) m' g')⟩

end Cert.Proof

end
-- ==== Proof.lean ====
module

public import proofs.«01_k».proof.Defs
public import proofs.«01_k».proof.Proof.Claims
public import proofs.«01_k».proof.Proof.Algebraic
public import proofs.«01_k».proof.Proof.Gen.Pre_finite
public import proofs.«01_k».proof.Proof.Gen.ReferenceIdeal.Run

@[expose] public section

noncomputable section

namespace Cert.Proof

/-- Everything the certificate claims. The frame claims hold of every memory, so of those the precondition holds of. -/
theorem claim : Cert.Claim :=
  ⟨Cert.Kernel.Gen.facts, Cert.KernelIdeal.Gen.facts, Cert.ReferenceIdeal.Gen.facts, Cert.Pre_finite.Gen.facts,
    frame_kernel, frame_kernelIdeal, fun m g _ => frame_kernelIdeal m g trivial, frame_referenceIdeal,
    fun m g _ => frame_referenceIdeal m g trivial, preserves, algebraic⟩

end Cert.Proof

end
